-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S1024x256 .f32) (main_arg1 : FVec F S256x32 .f32) (main_arg2 : IVec S1024x1 32) (main_arg3 : FVec F S4x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Pre_finite_ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S1024x256 .f32) (main_arg1 : FVec F S256x32 .f32) (main_arg2 : IVec S1024x1 32) (main_arg3 : FVec F S32x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S7x128x512 : Shape := ⟨3, ![7, 128, 512]⟩
abbrev S1280x512 : Shape := ⟨2, ![1280, 512]⟩
abbrev S7 : Shape := ⟨1, ![7]⟩
abbrev S21 : Shape := ⟨1, ![21]⟩
abbrev S_ : Shape := ⟨0, ![]⟩
abbrev S1024x32 : Shape := ⟨2, ![1024, 32]⟩
abbrev S1024 : Shape := ⟨1, ![1024]⟩
abbrev S256x256 : Shape := ⟨2, ![256, 256]⟩
abbrev S256x1 : Shape := ⟨2, ![256, 1]⟩
abbrev S256x1280 : Shape := ⟨2, ![256, 1280]⟩
abbrev S1 : Shape := ⟨1, ![1]⟩
abbrev S1x128x512 : Shape := ⟨3, ![1, 128, 512]⟩
abbrev S128x512 : Shape := ⟨2, ![128, 512]⟩
abbrev S128x256 : Shape := ⟨2, ![128, 256]⟩
abbrev S128x1 : Shape := ⟨2, ![128, 1]⟩
abbrev S128x1280 : Shape := ⟨2, ![128, 1280]⟩
abbrev S48x512 : Shape := ⟨2, ![48, 512]⟩
abbrev S32x512 : Shape := ⟨2, ![32, 512]⟩

abbrev nBuf : Space → Nat
  | .hbm => 6
  | .vmem => 13
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x32, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S1024x1, .f32⟩
  | .local _ .vmem, ⟨10, _⟩ => ⟨S7x128x512, .bf16⟩
  | .local _ .vmem, ⟨11, _⟩ => ⟨S1024x256, .bf16⟩
  | .local _ .vmem, ⟨12, _⟩ => ⟨S1280x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v9 : BitVec 32 := Scalar.xori v2 c1_i32_2
  let c1_i32_4 : BitVec 32 := 1#32
  let v10 : BitVec 32 := Scalar.muli v9 c1_i32_4
  let v11 : BitVec 32 := Scalar.addi c0_i32 v10
  v11.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.xori v2 c2_i32
  let c1_i32_6 : BitVec 32 := 1#32
  let v13 : BitVec 32 := Scalar.muli v12 c1_i32_6
  let v14 : BitVec 32 := Scalar.addi c0_i32_7 v13
  v14.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_9 : BitVec 32 := 1#32
  let v16 : BitVec 32 := Scalar.muli v15 c1_i32_9
  let v17 : BitVec 32 := Scalar.addi c0_i32_10 v16
  v17.toNat
def k0_dev4 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_12 : BitVec 32 := 1#32
  let v19 : BitVec 32 := Scalar.muli v18 c1_i32_12
  let v20 : BitVec 32 := Scalar.addi c0_i32_13 v19
  v20.toNat
def k0_dev5 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.xori v2 c5_i32
  let c1_i32_15 : BitVec 32 := 1#32
  let v22 : BitVec 32 := Scalar.muli v21 c1_i32_15
  let v23 : BitVec 32 := Scalar.addi c0_i32_16 v22
  v23.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_17 : BitVec 32 := 6#32
  let v24 : BitVec 32 := Scalar.xori v2 c6_i32_17
  let c1_i32_19 : BitVec 32 := 1#32
  let v25 : BitVec 32 := Scalar.muli v24 c1_i32_19
  let v26 : BitVec 32 := Scalar.addi c0_i32_20 v25
  v26.toNat
def k0_dev7 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v27 : BitVec 32 := Scalar.xori v2 c7_i32
  let c1_i32_22 : BitVec 32 := 1#32
  let v28 : BitVec 32 := Scalar.muli v27 c1_i32_22
  let v29 : BitVec 32 := Scalar.addi c0_i32_23 v28
  v29.toNat
def k0_off1 (d0 : Dev nD) (c6_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.xori v2 c6_i32_49
  let c6_i32_50 : BitVec 32 := 6#32
  let v78 : BitVec 32 := Scalar.andi v77 c6_i32_50
  let c1_i32_51 : BitVec 32 := 1#32
  let v79 : BitVec 32 := Scalar.shrsi v77 c1_i32_51
  let v80 : BitVec 32 := Scalar.xori v77 v79
  let c1_i32_52 : BitVec 32 := 1#32
  let v81 : BitVec 32 := Scalar.andi v80 c1_i32_52
  let v82 : BitVec 32 := Scalar.ori v78 v81
  let c6_i32_53 : BitVec 32 := 6#32
  let v83 : BitVec 32 := Scalar.andi v82 c6_i32_53
  let c128_i32 : BitVec 32 := 128#32
  let v84 : BitVec 32 := Scalar.muli v83 c128_i32
  let v85 : Index := Scalar.indexCast v84
  let c0_54 : Index := 0#32
  ![v85.toNat, 0]
def k0_off2 (d0 : Dev nD) (c6_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.xori v2 c6_i32_49
  let c6_i32_50 : BitVec 32 := 6#32
  let v78 : BitVec 32 := Scalar.andi v77 c6_i32_50
  let c1_i32_51 : BitVec 32 := 1#32
  let v79 : BitVec 32 := Scalar.shrsi v77 c1_i32_51
  let v80 : BitVec 32 := Scalar.xori v77 v79
  let c1_i32_52 : BitVec 32 := 1#32
  let v81 : BitVec 32 := Scalar.andi v80 c1_i32_52
  let v82 : BitVec 32 := Scalar.ori v78 v81
  let c6_i32_53 : BitVec 32 := 6#32
  let v83 : BitVec 32 := Scalar.andi v82 c6_i32_53
  let c128_i32 : BitVec 32 := 128#32
  let v84 : BitVec 32 := Scalar.muli v83 c128_i32
  let v87 : Index := Scalar.indexCast v84
  let c0_55 : Index := 0#32
  ![v87.toNat, 0]
def k0_off3 (d0 : Dev nD) (c6_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.xori v2 c6_i32_49
  let c6_i32_50 : BitVec 32 := 6#32
  let v78 : BitVec 32 := Scalar.andi v77 c6_i32_50
  let c1_i32_51 : BitVec 32 := 1#32
  let v79 : BitVec 32 := Scalar.shrsi v77 c1_i32_51
  let v80 : BitVec 32 := Scalar.xori v77 v79
  let c1_i32_52 : BitVec 32 := 1#32
  let v81 : BitVec 32 := Scalar.andi v80 c1_i32_52
  let v82 : BitVec 32 := Scalar.ori v78 v81
  let c6_i32_53 : BitVec 32 := 6#32
  let v83 : BitVec 32 := Scalar.andi v82 c6_i32_53
  let c128_i32 : BitVec 32 := 128#32
  let v84 : BitVec 32 := Scalar.muli v83 c128_i32
  let v131 : Index := Scalar.indexCast v84
  let c0_70 : Index := 0#32
  ![v131.toNat, 0]
def k0_off4 (d0 : Dev nD) (c6_i32_71 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v135 : BitVec 32 := Scalar.xori v2 c6_i32_71
  let c6_i32_72 : BitVec 32 := 6#32
  let v136 : BitVec 32 := Scalar.andi v135 c6_i32_72
  let c1_i32_73 : BitVec 32 := 1#32
  let v137 : BitVec 32 := Scalar.shrsi v135 c1_i32_73
  let v138 : BitVec 32 := Scalar.xori v135 v137
  let c1_i32_74 : BitVec 32 := 1#32
  let v139 : BitVec 32 := Scalar.andi v138 c1_i32_74
  let v140 : BitVec 32 := Scalar.ori v136 v139
  let c128_i32_75 : BitVec 32 := 128#32
  let v141 : BitVec 32 := Scalar.muli v140 c128_i32_75
  let c0_i32_84 : BitVec 32 := 0#32
  ![v141.toNat, 0]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_76 : BitVec 32 := 6#32
  let v142 : BitVec 32 := Scalar.xori v2 c6_i32_76
  let c1_i32_80 : BitVec 32 := 1#32
  let v143 : BitVec 32 := Scalar.muli v142 c1_i32_80
  let v144 : BitVec 32 := Scalar.addi c0_i32_81 v143
  v144.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_90 : BitVec 32 := 7#32
  let v159 : BitVec 32 := Scalar.xori v2 c7_i32_90
  let c1_i32_94 : BitVec 32 := 1#32
  let v160 : BitVec 32 := Scalar.muli v159 c1_i32_94
  let v161 : BitVec 32 := Scalar.addi c0_i32_95 v160
  v161.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v234 : BitVec 32 := Scalar.xori v2 c2_i32_127
  let c1_i32_131 : BitVec 32 := 1#32
  let v235 : BitVec 32 := Scalar.muli v234 c1_i32_131
  let v236 : BitVec 32 := Scalar.addi c0_i32_132 v235
  v236.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_141 : BitVec 32 := 3#32
  let v251 : BitVec 32 := Scalar.xori v2 c3_i32_141
  let c1_i32_145 : BitVec 32 := 1#32
  let v252 : BitVec 32 := Scalar.muli v251 c1_i32_145
  let v253 : BitVec 32 := Scalar.addi c0_i32_146 v252
  v253.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_178 : BitVec 32 := 4#32
  let v326 : BitVec 32 := Scalar.xori v2 c4_i32_178
  let c1_i32_182 : BitVec 32 := 1#32
  let v327 : BitVec 32 := Scalar.muli v326 c1_i32_182
  let v328 : BitVec 32 := Scalar.addi c0_i32_183 v327
  v328.toNat
def k0_dev13 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_192 : BitVec 32 := 5#32
  let v343 : BitVec 32 := Scalar.xori v2 c5_i32_192
  let c1_i32_196 : BitVec 32 := 1#32
  let v344 : BitVec 32 := Scalar.muli v343 c1_i32_196
  let v345 : BitVec 32 := Scalar.addi c0_i32_197 v344
  v345.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c1_i32_201 : BitVec 32 := 1#32
  let v353 : BitVec 32 := Scalar.xori v7 c1_i32_201
  let c128_i32_202 : BitVec 32 := 128#32
  let v354 : BitVec 32 := Scalar.muli v353 c128_i32_202
  let v355 : Index := Scalar.indexCast v354
  let c0_203 : Index := 0#32
  ![v355.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c1_i32_201 : BitVec 32 := 1#32
  let v353 : BitVec 32 := Scalar.xori v7 c1_i32_201
  let c128_i32_202 : BitVec 32 := 128#32
  let v354 : BitVec 32 := Scalar.muli v353 c128_i32_202
  let v357 : Index := Scalar.indexCast v354
  let c0_204 : Index := 0#32
  ![v357.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c1_i32_201 : BitVec 32 := 1#32
  let v353 : BitVec 32 := Scalar.xori v7 c1_i32_201
  let c128_i32_202 : BitVec 32 := 128#32
  let v354 : BitVec 32 := Scalar.muli v353 c128_i32_202
  let v401 : Index := Scalar.indexCast v354
  let c0_219 : Index := 0#32
  ![v401.toNat, 0]
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_225 : BitVec 32 := 1#32
  let v412 : BitVec 32 := Scalar.xori v2 c1_i32_225
  let c1_i32_229 : BitVec 32 := 1#32
  let v413 : BitVec 32 := Scalar.muli v412 c1_i32_229
  let v414 : BitVec 32 := Scalar.addi c0_i32_230 v413
  v414.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c128_i32_234 : BitVec 32 := 128#32
  let v422 : BitVec 32 := Scalar.muli v7 c128_i32_234
  let v423 : Index := Scalar.indexCast v422
  let c0_235 : Index := 0#32
  ![v423.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c128_i32_234 : BitVec 32 := 128#32
  let v422 : BitVec 32 := Scalar.muli v7 c128_i32_234
  let v425 : Index := Scalar.indexCast v422
  let c0_236 : Index := 0#32
  ![v425.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c128_i32_234 : BitVec 32 := 128#32
  let v422 : BitVec 32 := Scalar.muli v7 c128_i32_234
  let v468 : Index := Scalar.indexCast v422
  let c0_251 : Index := 0#32
  ![v468.toNat, 0]
def k0_off11 (d0 : Dev nD) (c0_i32_326 : BitVec 32) (c0_i32_328 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v557 : BitVec 32 := Scalar.xori v7 c0_i32_326
  let c128_i32_327 : BitVec 32 := 128#32
  let v558 : BitVec 32 := Scalar.muli v557 c128_i32_327
  let v559 : BitVec 32 := Scalar.addi v558 c0_i32_328
  let c0_i32_333 : BitVec 32 := 0#32
  ![v559.toNat, 0]
def k0_off11_at (r : Fin 8) : BitVec 32 × BitVec 32 :=
  if r.val < 4 then
    if r.val < 2 then
      if r.val < 1 then
        (0#32, 0#32)
      else
        (0#32, 48#32)
    else
      if r.val < 3 then
        (1#32, 0#32)
      else
        (2#32, 48#32)
  else
    if r.val < 6 then
      if r.val < 5 then
        (2#32, 0#32)
      else
        (3#32, 0#32)
    else
      if r.val < 7 then
        (4#32, 48#32)
      else
        (6#32, 48#32)
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v556 : BitVec 32 := Scalar.xori v2 c1_i32_325
  let c1_i32_331 : BitVec 32 := 1#32
  let v560 : BitVec 32 := Scalar.muli v556 c1_i32_331
  let v561 : BitVec 32 := Scalar.addi c0_i32_332 v560
  v561.toNat
def k0_dev16 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_339 : BitVec 32 := 3#32
  let v572 : BitVec 32 := Scalar.xori v2 c3_i32_339
  let c1_i32_345 : BitVec 32 := 1#32
  let v576 : BitVec 32 := Scalar.muli v572 c1_i32_345
  let v577 : BitVec 32 := Scalar.addi c0_i32_346 v576
  v577.toNat
def k0_dev17 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_353 : BitVec 32 := 4#32
  let v588 : BitVec 32 := Scalar.xori v2 c4_i32_353
  let c1_i32_359 : BitVec 32 := 1#32
  let v592 : BitVec 32 := Scalar.muli v588 c1_i32_359
  let v593 : BitVec 32 := Scalar.addi c0_i32_360 v592
  v593.toNat
def k0_dev18 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_367 : BitVec 32 := 3#32
  let v604 : BitVec 32 := Scalar.xori v2 c3_i32_367
  let c1_i32_372 : BitVec 32 := 1#32
  let v608 : BitVec 32 := Scalar.muli v604 c1_i32_372
  let v609 : BitVec 32 := Scalar.addi c0_i32_373 v608
  v609.toNat
def k0_dev19 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_380 : BitVec 32 := 4#32
  let v620 : BitVec 32 := Scalar.xori v2 c4_i32_380
  let c1_i32_386 : BitVec 32 := 1#32
  let v624 : BitVec 32 := Scalar.muli v620 c1_i32_386
  let v625 : BitVec 32 := Scalar.addi c0_i32_387 v624
  v625.toNat
def k0_dev20 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_394 : BitVec 32 := 1#32
  let v636 : BitVec 32 := Scalar.xori v2 c1_i32_394
  let c1_i32_399 : BitVec 32 := 1#32
  let v640 : BitVec 32 := Scalar.muli v636 c1_i32_399
  let v641 : BitVec 32 := Scalar.addi c0_i32_400 v640
  v641.toNat
def k0_off12 (d0 : Dev nD) (c0_i32_408 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v653 : BitVec 32 := Scalar.xori v7 c0_i32_408
  let c128_i32_409 : BitVec 32 := 128#32
  let v654 : BitVec 32 := Scalar.muli v653 c128_i32_409
  let c96_i32 : BitVec 32 := 96#32
  let v655 : BitVec 32 := Scalar.addi v654 c96_i32
  let c0_i32_413 : BitVec 32 := 0#32
  ![v655.toNat, 0]
def k0_off12_at (r : Fin 4) : BitVec 32 :=
  if r.val < 2 then
    if r.val < 1 then
      0#32
    else
      4#32
  else
    if r.val < 3 then
      1#32
    else
      5#32
def k0_dev21 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_407 : BitVec 32 := 4#32
  let v652 : BitVec 32 := Scalar.xori v2 c4_i32_407
  let c1_i32_411 : BitVec 32 := 1#32
  let v656 : BitVec 32 := Scalar.muli v652 c1_i32_411
  let v657 : BitVec 32 := Scalar.addi c0_i32_412 v656
  v657.toNat
def k0_dev22 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_419 : BitVec 32 := 1#32
  let v668 : BitVec 32 := Scalar.xori v2 c1_i32_419
  let c1_i32_424 : BitVec 32 := 1#32
  let v672 : BitVec 32 := Scalar.muli v668 c1_i32_424
  let v673 : BitVec 32 := Scalar.addi c0_i32_425 v672
  v673.toNat
def k0_dev23 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_432 : BitVec 32 := 3#32
  let v684 : BitVec 32 := Scalar.xori v2 c3_i32_432
  let c1_i32_437 : BitVec 32 := 1#32
  let v688 : BitVec 32 := Scalar.muli v684 c1_i32_437
  let v689 : BitVec 32 := Scalar.addi c0_i32_438 v688
  v689.toNat
def k0_off13 (d0 : Dev nD) (c0_i32_335 : BitVec 32) (c1_i32_336 : BitVec 32) (c0_i32_338 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v568 : BitVec 32 := Scalar.xori v7 c0_i32_335
  let v569 : BitVec 32 := Scalar.xori v568 c1_i32_336
  let c128_i32_337 : BitVec 32 := 128#32
  let v570 : BitVec 32 := Scalar.muli v569 c128_i32_337
  let v571 : BitVec 32 := Scalar.addi v570 c0_i32_338
  let c0_i32_449 : BitVec 32 := 0#32
  ![v571.toNat, 0]
def k0_off13_at (r : Fin 14) : BitVec 32 × BitVec 32 × BitVec 32 :=
  if r.val < 7 then
    if r.val < 3 then
      if r.val < 1 then
        (0#32, 1#32, 0#32)
      else
        if r.val < 2 then
          (0#32, 2#32, 48#32)
        else
          (0#32, 2#32, 0#32)
    else
      if r.val < 5 then
        if r.val < 4 then
          (1#32, 2#32, 0#32)
        else
          (0#32, 4#32, 48#32)
      else
        if r.val < 6 then
          (2#32, 4#32, 48#32)
        else
          (0#32, 4#32, 0#32)
  else
    if r.val < 10 then
      if r.val < 8 then
        (1#32, 4#32, 0#32)
      else
        if r.val < 9 then
          (2#32, 4#32, 0#32)
        else
          (3#32, 4#32, 0#32)
    else
      if r.val < 12 then
        if r.val < 11 then
          (0#32, 1#32, 48#32)
        else
          (2#32, 1#32, 48#32)
      else
        if r.val < 13 then
          (4#32, 1#32, 48#32)
        else
          (6#32, 1#32, 48#32)
def k0_dev24 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_451 : BitVec 32 := 3#32
  let v706 : BitVec 32 := Scalar.xori v2 c3_i32_451
  let c1_i32_457 : BitVec 32 := 1#32
  let v710 : BitVec 32 := Scalar.muli v706 c1_i32_457
  let v711 : BitVec 32 := Scalar.addi c0_i32_458 v710
  v711.toNat
def k0_dev25 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_465 : BitVec 32 := 4#32
  let v722 : BitVec 32 := Scalar.xori v2 c4_i32_465
  let c1_i32_471 : BitVec 32 := 1#32
  let v726 : BitVec 32 := Scalar.muli v722 c1_i32_471
  let v727 : BitVec 32 := Scalar.addi c0_i32_472 v726
  v727.toNat
def k0_dev26 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v744 : BitVec 32 := Scalar.xori v2 c4_i32_485
  let c1_i32_490 : BitVec 32 := 1#32
  let v748 : BitVec 32 := Scalar.muli v744 c1_i32_490
  let v749 : BitVec 32 := Scalar.addi c0_i32_491 v748
  v749.toNat
def k0_dev27 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_498 : BitVec 32 := 1#32
  let v760 : BitVec 32 := Scalar.xori v2 c1_i32_498
  let c1_i32_503 : BitVec 32 := 1#32
  let v764 : BitVec 32 := Scalar.muli v760 c1_i32_503
  let v765 : BitVec 32 := Scalar.addi c0_i32_504 v764
  v765.toNat
def k0_off14 (d0 : Dev nD) (c0_i32_415 : BitVec 32) (c4_i32_416 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v664 : BitVec 32 := Scalar.xori v7 c0_i32_415
  let v665 : BitVec 32 := Scalar.xori v664 c4_i32_416
  let c128_i32_417 : BitVec 32 := 128#32
  let v666 : BitVec 32 := Scalar.muli v665 c128_i32_417
  let c96_i32_418 : BitVec 32 := 96#32
  let v667 : BitVec 32 := Scalar.addi v666 c96_i32_418
  let c0_i32_515 : BitVec 32 := 0#32
  ![v667.toNat, 0]
def k0_off14_at (r : Fin 7) : BitVec 32 × BitVec 32 :=
  if r.val < 3 then
    if r.val < 1 then
      (0#32, 4#32)
    else
      if r.val < 2 then
        (0#32, 1#32)
      else
        (4#32, 1#32)
  else
    if r.val < 5 then
      if r.val < 4 then
        (0#32, 2#32)
      else
        (4#32, 2#32)
    else
      if r.val < 6 then
        (1#32, 2#32)
      else
        (5#32, 2#32)
def k0_dev28 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_517 : BitVec 32 := 1#32
  let v782 : BitVec 32 := Scalar.xori v2 c1_i32_517
  let c1_i32_522 : BitVec 32 := 1#32
  let v786 : BitVec 32 := Scalar.muli v782 c1_i32_522
  let v787 : BitVec 32 := Scalar.addi c0_i32_523 v786
  v787.toNat
def k0_dev29 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_530 : BitVec 32 := 3#32
  let v798 : BitVec 32 := Scalar.xori v2 c3_i32_530
  let c1_i32_535 : BitVec 32 := 1#32
  let v802 : BitVec 32 := Scalar.muli v798 c1_i32_535
  let v803 : BitVec 32 := Scalar.addi c0_i32_536 v802
  v803.toNat
def k0_dev30 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_555 : BitVec 32 := 4#32
  let v826 : BitVec 32 := Scalar.xori v2 c4_i32_555
  let c1_i32_561 : BitVec 32 := 1#32
  let v830 : BitVec 32 := Scalar.muli v826 c1_i32_561
  let v831 : BitVec 32 := Scalar.addi c0_i32_562 v830
  v831.toNat
def k0_dev31 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_569 : BitVec 32 := 4#32
  let v842 : BitVec 32 := Scalar.xori v2 c4_i32_569
  let c1_i32_575 : BitVec 32 := 1#32
  let v846 : BitVec 32 := Scalar.muli v842 c1_i32_575
  let v847 : BitVec 32 := Scalar.addi c0_i32_576 v846
  v847.toNat
def k0_dev32 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_595 : BitVec 32 := 1#32
  let v870 : BitVec 32 := Scalar.xori v2 c1_i32_595
  let c1_i32_600 : BitVec 32 := 1#32
  let v874 : BitVec 32 := Scalar.muli v870 c1_i32_600
  let v875 : BitVec 32 := Scalar.addi c0_i32_601 v874
  v875.toNat
def k0_dev33 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_608 : BitVec 32 := 1#32
  let v886 : BitVec 32 := Scalar.xori v2 c1_i32_608
  let c1_i32_613 : BitVec 32 := 1#32
  let v890 : BitVec 32 := Scalar.muli v886 c1_i32_613
  let v891 : BitVec 32 := Scalar.addi c0_i32_614 v890
  v891.toNat
def k0_dev34 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_633 : BitVec 32 := 3#32
  let v914 : BitVec 32 := Scalar.xori v2 c3_i32_633
  let c1_i32_638 : BitVec 32 := 1#32
  let v918 : BitVec 32 := Scalar.muli v914 c1_i32_638
  let v919 : BitVec 32 := Scalar.addi c0_i32_639 v918
  v919.toNat
def k0_dev35 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_646 : BitVec 32 := 3#32
  let v930 : BitVec 32 := Scalar.xori v2 c3_i32_646
  let c1_i32_651 : BitVec 32 := 1#32
  let v934 : BitVec 32 := Scalar.muli v930 c1_i32_651
  let v935 : BitVec 32 := Scalar.addi c0_i32_652 v934
  v935.toNat
def k0_off15 (d0 : Dev nD) (c0_i32_659 : BitVec 32) (c0_i32_661 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v946 : BitVec 32 := Scalar.xori v7 c0_i32_659
  let c128_i32_660 : BitVec 32 := 128#32
  let v947 : BitVec 32 := Scalar.muli v946 c128_i32_660
  let v948 : BitVec 32 := Scalar.addi v947 c0_i32_661
  let v949 : Index := Scalar.indexCast v948
  let c0_662 : Index := 0#32
  ![v949.toNat, 0]
def k0_off16 (d0 : Dev nD) (c0_i32_699 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v1010 : BitVec 32 := Scalar.xori v7 c0_i32_699
  let c128_i32_700 : BitVec 32 := 128#32
  let v1011 : BitVec 32 := Scalar.muli v1010 c128_i32_700
  let c96_i32_701 : BitVec 32 := 96#32
  let v1012 : BitVec 32 := Scalar.addi v1011 c96_i32_701
  let v1013 : Index := Scalar.indexCast v1012
  let c0_702 : Index := 0#32
  ![v1013.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S1024x32 : Shape := ⟨2, ![1024, 32]⟩
abbrev S_ : Shape := ⟨0, ![]⟩
abbrev S1024 : Shape := ⟨1, ![1024]⟩
abbrev S1024x512 : Shape := ⟨2, ![1024, 512]⟩
abbrev S32 : Shape := ⟨1, ![32]⟩
abbrev S1x32 : Shape := ⟨2, ![1, 32]⟩
abbrev S1024x32x512 : Shape := ⟨3, ![1024, 32, 512]⟩
abbrev S1024x32x1 : Shape := ⟨3, ![1024, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S32x256x512, .f32⟩
  | .hbm, ⟨4, _⟩ => ⟨S256x512, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x32, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x32, .f32⟩
  | .hbm, ⟨16, _⟩ => ⟨S1024x32, .f32⟩
  | .hbm, ⟨17, _⟩ => ⟨S1024x512, .f32⟩
  | .hbm, ⟨18, _⟩ => ⟨S32, .i32⟩
  | .hbm, ⟨19, _⟩ => ⟨S1x32, .i32⟩
  | .hbm, ⟨20, _⟩ => ⟨S1024x32, .i32⟩
  | .hbm, ⟨21, _⟩ => ⟨S1024x32, .i32⟩
  | .hbm, ⟨22, _⟩ => ⟨S1024x32, .i1⟩
  | .hbm, ⟨23, _⟩ => ⟨S_, .f32⟩
  | .hbm, ⟨24, _⟩ => ⟨S_, .f32⟩
  | .hbm, ⟨25, _⟩ => ⟨S1024x32, .f32⟩
  | .hbm, ⟨26, _⟩ => ⟨S1024x32, .f32⟩
  | .hbm, ⟨27, _⟩ => ⟨S1024x32x512, .f32⟩
  | .hbm, ⟨28, _⟩ => ⟨S1024x32x1, .f32⟩
  | .hbm, ⟨29, _⟩ => ⟨S1024x32x512, .f32⟩
  | .hbm, ⟨30, _⟩ => ⟨S1024x32x512, .f32⟩
  | .hbm, ⟨31, _⟩ => ⟨S_, .f32⟩
  | .hbm, ⟨32, _⟩ => ⟨S1024x512, .f32⟩
  | .hbm, ⟨33, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Mesh.lean ====
/-
# The eight devices: who sends what to whom, and at which rows

Device `c` meets the devices `c xor j`.  The rows of the result are cut in eight chunks of 128, and
device `c` reduces chunk `vt c`, where `vt` is an involution that is linear for `xor`.  The tables
below list, in program order, the transfers of the two phases: the seven of the reduce-scatter and
the twenty-one of the all-gather (three row groups `q`, seven slots each).
-/
module

public import proofs.«01_k».proof.Proof.Gen.KernelIdeal
public import proofs.«01_k».proof.Proof.Gen.KernelIdeal.Skeleton

@[expose] public section

namespace Cert.KernelIdeal.Moe

open Cert.KernelIdeal Cert.KernelIdeal.Gen
open Idealize.ShloMosaic

/-! ## Devices -/

/-- The device that differs from `c` by the mask `j`. -/
def xr (c : Dev nD) (j : ℕ) : Dev nD := ⟨(c.val ^^^ j) % 8, Nat.mod_lt _ (by decide)⟩

/-- The chunk of rows device `n` reduces. -/
def vt (n : ℕ) : ℕ := (n &&& 6) ||| ((n ^^^ (n >>> 1)) &&& 1)

/-! ## Reduce-scatter: the order in which the seven partners are served -/

def rsJ (i : ℕ) : ℕ := [6, 7, 2, 3, 4, 5, 1].getD i 0

/-! ## All-gather: the twenty-one transfers in program order -/

/-- The row group of transfer `i`, -/
def agQ (i : ℕ) : ℕ := [0,0,0, 1,1,1, 2,2,2, 0,0, 1,1, 2,2, 0,0, 1,1, 2,2].getD i 0
/-- its slot, -/
def agS (i : ℕ) : ℕ := [0,1,2, 0,1,2, 0,1,2, 3,4, 3,4, 3,4, 5,6, 5,6, 5,6].getD i 0
/-- its semaphore, -/
def agI (i : ℕ) : ℕ := [0,1,2, 7,8,9, 14,15,16, 3,4, 10,11, 17,18, 5,6, 12,13, 19,20].getD i 0
/-- the mask of the device it goes to, -/
def agM (i : ℕ) : ℕ := [1,3,4, 3,4,1, 4,1,3, 3,4, 4,1, 1,3, 4,4, 1,1, 3,3].getD i 0
/-- the chunk it moves, relative to the sender's own, -/
def agC (i : ℕ) : ℕ := [0,0,0, 0,0,0, 0,0,0, 1,1, 2,2, 4,4, 2,3, 4,6, 1,5].getD i 0
/-- the piece it moves, in the sender's order of arrival, -/
def agP (i : ℕ) : ℕ := [0,0,0, 1,1,1, 2,2,2, 3,3, 4,4, 5,5, 6,7, 8,9, 10,11].getD i 0
/-- and which of the piece's shares it takes. -/
def agT (i : ℕ) : ℕ := [0,1,2, 0,1,2, 0,1,2, 0,1, 0,1, 0,1, 0,0, 0,0, 0,0].getD i 0

/-! ## Pieces of the gathered array, in order of arrival (three own, then twenty-one received) -/

/-- The row group of piece `p`, -/
def pcQ (p : ℕ) : ℕ := [0,1,2, 0,1,2, 0,0,1,1,2,2, 0,0,0,0, 1,1,1,1, 2,2,2,2].getD p 0
/-- its chunk relative to the receiver's own, -/
def pcC (p : ℕ) : ℕ := [0,0,0, 1,2,4, 2,3,4,6,1,5, 4,5,6,7, 1,3,5,7, 2,6,3,7].getD p 0
/-- and the semaphore a received one (number `r = p - 3`) comes with. -/
def rvI (r : ℕ) : ℕ := [0,7,14, 1,3,8,10,15,17, 2,4,5,6, 9,11,12,13, 16,18,19,20].getD r 0
/-- The number of the received piece that comes with semaphore `x`. -/
def ivR (x : ℕ) : ℕ := [0,3,9,4,10,11,12, 1,5,13,6,14,15,16, 2,7,17,8,18,19,20].getD x 0
/-- The piece converted at step `n`. -/
def cvP (n : ℕ) : ℕ := [0,3,6,7, 1,4,8,9, 2,5,10,11, 12,13,14,15, 16,17,18,19, 20,21,22,23].getD n 0

/-- Where row group `q` starts within its chunk, -/
def qOff (q : ℕ) : ℕ := [0, 48, 96].getD q 0
/-- and how many rows it has. -/
def qLen (q : ℕ) : ℕ := [48, 48, 32].getD q 0

/-- First row of piece `p` on device `c`. -/
def pRow (c : Dev nD) (p : ℕ) : ℕ := (vt c.val ^^^ pcC p) * 128 + qOff (pcQ p)
/-- Rows of piece `p`. -/
def pLen (p : ℕ) : ℕ := qLen (pcQ p)
/-- First row of the chunk device `c` sends to `xr c j`. -/
def cRow (c : Dev nD) (j : ℕ) : ℕ := vt (xr c j).val * 128
/-- First row of the pair of chunks that holds those for `xr c j` and `xr c (j xor 1)`. -/
def gRow (c : Dev nD) (j : ℕ) : ℕ := vt (xr c j).val / 2 * 256

/-! ## Facts about the tables -/

theorem xr_xr (c : Dev nD) : ∀ j < 8, xr (xr c j) j = c := by revert c; decide
theorem xr_inj (c : Dev nD) : ∀ j < 8, ∀ j' < 8, xr c j = xr c j' → j = j' := by
  revert c; decide +kernel
theorem xr_surj (c d : Dev nD) : ∃ j < 8, d = xr c j := by revert c d; decide +kernel
theorem pRow_send (c : Dev nD) : ∀ i < 21, pRow c (agP i) = pRow (xr c (agM i)) (3 + ivR (agI i)) := by
  revert c; decide +kernel
theorem pLen_send : ∀ i < 21, pLen (agP i) = pLen (3 + ivR (agI i)) := by decide
theorem agM_lt : ∀ i < 21, agM i < 8 := by decide
theorem cRow_self (c : Dev nD) : cRow c 0 = vt c.val * 128 := by revert c; decide

/-! ## The program's devices and offsets in closed form -/

theorem dev1_eq (c : Dev nD) : (⟨k0_dev1 c, k0_dev1_lt c⟩ : Dev nD) = xr c 1 := by revert c; decide
theorem dev2_eq (c : Dev nD) : (⟨k0_dev2 c, k0_dev2_lt c⟩ : Dev nD) = xr c 2 := by revert c; decide
theorem dev3_eq (c : Dev nD) : (⟨k0_dev3 c, k0_dev3_lt c⟩ : Dev nD) = xr c 3 := by revert c; decide
theorem dev4_eq (c : Dev nD) : (⟨k0_dev4 c, k0_dev4_lt c⟩ : Dev nD) = xr c 4 := by revert c; decide
theorem dev5_eq (c : Dev nD) : (⟨k0_dev5 c, k0_dev5_lt c⟩ : Dev nD) = xr c 5 := by revert c; decide
theorem dev6_eq (c : Dev nD) : (⟨k0_dev6 c, k0_dev6_lt c⟩ : Dev nD) = xr c 6 := by revert c; decide
theorem dev7_eq (c : Dev nD) : (⟨k0_dev7 c, k0_dev7_lt c⟩ : Dev nD) = xr c 7 := by revert c; decide
theorem dev8_eq (c : Dev nD) : (⟨k0_dev8 c, k0_dev8_lt c⟩ : Dev nD) = xr c (rsJ 0) := by revert c; decide
theorem dev9_eq (c : Dev nD) : (⟨k0_dev9 c, k0_dev9_lt c⟩ : Dev nD) = xr c (rsJ 1) := by revert c; decide
theorem dev10_eq (c : Dev nD) : (⟨k0_dev10 c, k0_dev10_lt c⟩ : Dev nD) = xr c (rsJ 2) := by revert c; decide
theorem dev11_eq (c : Dev nD) : (⟨k0_dev11 c, k0_dev11_lt c⟩ : Dev nD) = xr c (rsJ 3) := by revert c; decide
theorem dev12_eq (c : Dev nD) : (⟨k0_dev12 c, k0_dev12_lt c⟩ : Dev nD) = xr c (rsJ 4) := by revert c; decide
theorem dev13_eq (c : Dev nD) : (⟨k0_dev13 c, k0_dev13_lt c⟩ : Dev nD) = xr c (rsJ 5) := by revert c; decide
theorem dev14_eq (c : Dev nD) : (⟨k0_dev14 c, k0_dev14_lt c⟩ : Dev nD) = xr c (rsJ 6) := by revert c; decide
theorem dev15_eq (c : Dev nD) : (⟨k0_dev15 c, k0_dev15_lt c⟩ : Dev nD) = xr c (agM 0) := by revert c; decide
theorem dev16_eq (c : Dev nD) : (⟨k0_dev16 c, k0_dev16_lt c⟩ : Dev nD) = xr c (agM 1) := by revert c; decide
theorem dev17_eq (c : Dev nD) : (⟨k0_dev17 c, k0_dev17_lt c⟩ : Dev nD) = xr c (agM 2) := by revert c; decide
theorem dev18_eq (c : Dev nD) : (⟨k0_dev18 c, k0_dev18_lt c⟩ : Dev nD) = xr c (agM 3) := by revert c; decide
theorem dev19_eq (c : Dev nD) : (⟨k0_dev19 c, k0_dev19_lt c⟩ : Dev nD) = xr c (agM 4) := by revert c; decide
theorem dev20_eq (c : Dev nD) : (⟨k0_dev20 c, k0_dev20_lt c⟩ : Dev nD) = xr c (agM 5) := by revert c; decide
theorem dev21_eq (c : Dev nD) : (⟨k0_dev21 c, k0_dev21_lt c⟩ : Dev nD) = xr c (agM 6) := by revert c; decide
theorem dev22_eq (c : Dev nD) : (⟨k0_dev22 c, k0_dev22_lt c⟩ : Dev nD) = xr c (agM 7) := by revert c; decide
theorem dev23_eq (c : Dev nD) : (⟨k0_dev23 c, k0_dev23_lt c⟩ : Dev nD) = xr c (agM 8) := by revert c; decide
theorem dev24_eq (c : Dev nD) : (⟨k0_dev24 c, k0_dev24_lt c⟩ : Dev nD) = xr c (agM 9) := by revert c; decide
theorem dev25_eq (c : Dev nD) : (⟨k0_dev25 c, k0_dev25_lt c⟩ : Dev nD) = xr c (agM 10) := by revert c; decide
theorem dev26_eq (c : Dev nD) : (⟨k0_dev26 c, k0_dev26_lt c⟩ : Dev nD) = xr c (agM 11) := by revert c; decide
theorem dev27_eq (c : Dev nD) : (⟨k0_dev27 c, k0_dev27_lt c⟩ : Dev nD) = xr c (agM 12) := by revert c; decide
theorem dev28_eq (c : Dev nD) : (⟨k0_dev28 c, k0_dev28_lt c⟩ : Dev nD) = xr c (agM 13) := by revert c; decide
theorem dev29_eq (c : Dev nD) : (⟨k0_dev29 c, k0_dev29_lt c⟩ : Dev nD) = xr c (agM 14) := by revert c; decide
theorem dev30_eq (c : Dev nD) : (⟨k0_dev30 c, k0_dev30_lt c⟩ : Dev nD) = xr c (agM 15) := by revert c; decide
theorem dev31_eq (c : Dev nD) : (⟨k0_dev31 c, k0_dev31_lt c⟩ : Dev nD) = xr c (agM 16) := by revert c; decide
theorem dev32_eq (c : Dev nD) : (⟨k0_dev32 c, k0_dev32_lt c⟩ : Dev nD) = xr c (agM 17) := by revert c; decide
theorem dev33_eq (c : Dev nD) : (⟨k0_dev33 c, k0_dev33_lt c⟩ : Dev nD) = xr c (agM 18) := by revert c; decide
theorem dev34_eq (c : Dev nD) : (⟨k0_dev34 c, k0_dev34_lt c⟩ : Dev nD) = xr c (agM 19) := by revert c; decide
theorem dev35_eq (c : Dev nD) : (⟨k0_dev35 c, k0_dev35_lt c⟩ : Dev nD) = xr c (agM 20) := by revert c; decide

/-- Loads of a pair of chunks, at the three pairs that are sent away whole. -/
theorem off1_eq (c : Dev nD) : k0_off1 c 6#32 = ![gRow c 6, 0] ∧ k0_off1 c 2#32 = ![gRow c 2, 0] ∧ k0_off1 c 4#32 = ![gRow c 4, 0] := by
  revert c; decide
theorem off2_eq (c : Dev nD) : k0_off2 c 6#32 = ![gRow c 6, 0] ∧ k0_off2 c 2#32 = ![gRow c 2, 0] ∧ k0_off2 c 4#32 = ![gRow c 4, 0] := by
  revert c; decide
theorem off3_eq (c : Dev nD) : k0_off3 c 6#32 = ![gRow c 6, 0] ∧ k0_off3 c 2#32 = ![gRow c 2, 0] ∧ k0_off3 c 4#32 = ![gRow c 4, 0] := by
  revert c; decide
/-- The chunk sent to partner `j`. -/
theorem off4_eq (c : Dev nD) : k0_off4 c 1#32 = ![cRow c 1, 0] ∧ k0_off4 c 2#32 = ![cRow c 2, 0] ∧ k0_off4 c 3#32 = ![cRow c 3, 0]
    ∧ k0_off4 c 4#32 = ![cRow c 4, 0] ∧ k0_off4 c 5#32 = ![cRow c 5, 0] ∧ k0_off4 c 6#32 = ![cRow c 6, 0] ∧ k0_off4 c 7#32 = ![cRow c 7, 0] := by
  revert c; decide
theorem off5_eq (c : Dev nD) : k0_off5 c = ![cRow c 1, 0] ∧ k0_off6 c = ![cRow c 1, 0] ∧ k0_off7 c = ![cRow c 1, 0] := by
  revert c; decide
theorem off8_eq (c : Dev nD) : k0_off8 c = ![cRow c 0, 0] ∧ k0_off9 c = ![cRow c 0, 0] ∧ k0_off10 c = ![cRow c 0, 0] := by
  revert c; decide
/-- All-gather sends: the piece that moves. -/
theorem off11_eq (c : Dev nD) : k0_off11 c 0#32 0#32 = ![pRow c 0, 0] ∧ k0_off11 c 0#32 48#32 = ![pRow c 1, 0] ∧ k0_off11 c 1#32 0#32 = ![pRow c 3, 0]
    ∧ k0_off11 c 2#32 0#32 = ![pRow c 6, 0] ∧ k0_off11 c 2#32 48#32 = ![pRow c 4, 0] ∧ k0_off11 c 3#32 0#32 = ![pRow c 7, 0]
    ∧ k0_off11 c 4#32 48#32 = ![pRow c 8, 0] ∧ k0_off11 c 6#32 48#32 = ![pRow c 9, 0] := by
  revert c; decide
theorem off12_eq (c : Dev nD) : k0_off12 c 0#32 = ![pRow c 2, 0] ∧ k0_off12 c 4#32 = ![pRow c 5, 0] ∧ k0_off12 c 1#32 = ![pRow c 10, 0]
    ∧ k0_off12 c 5#32 = ![pRow c 11, 0] := by
  revert c; decide

/-- The pieces converted at the end. -/
theorem off15_eq (c : Dev nD) : k0_off15 c 0#32 0#32 = ![pRow c 0, 0] ∧ k0_off15 c 1#32 0#32 = ![pRow c 3, 0] ∧ k0_off15 c 2#32 0#32 = ![pRow c 6, 0]
    ∧ k0_off15 c 3#32 0#32 = ![pRow c 7, 0] ∧ k0_off15 c 4#32 0#32 = ![pRow c 12, 0] ∧ k0_off15 c 5#32 0#32 = ![pRow c 13, 0]
    ∧ k0_off15 c 6#32 0#32 = ![pRow c 14, 0] ∧ k0_off15 c 7#32 0#32 = ![pRow c 15, 0] := by
  revert c; decide
theorem off15_eq' (c : Dev nD) : k0_off15 c 0#32 48#32 = ![pRow c 1, 0] ∧ k0_off15 c 1#32 48#32 = ![pRow c 16, 0] ∧ k0_off15 c 2#32 48#32 = ![pRow c 4, 0]
    ∧ k0_off15 c 3#32 48#32 = ![pRow c 17, 0] ∧ k0_off15 c 4#32 48#32 = ![pRow c 8, 0] ∧ k0_off15 c 5#32 48#32 = ![pRow c 18, 0]
    ∧ k0_off15 c 6#32 48#32 = ![pRow c 9, 0] ∧ k0_off15 c 7#32 48#32 = ![pRow c 19, 0] := by
  revert c; decide
theorem off16_eq (c : Dev nD) : k0_off16 c 0#32 = ![pRow c 2, 0] ∧ k0_off16 c 1#32 = ![pRow c 10, 0] ∧ k0_off16 c 2#32 = ![pRow c 20, 0]
    ∧ k0_off16 c 3#32 = ![pRow c 22, 0] ∧ k0_off16 c 4#32 = ![pRow c 5, 0] ∧ k0_off16 c 5#32 = ![pRow c 11, 0]
    ∧ k0_off16 c 6#32 = ![pRow c 21, 0] ∧ k0_off16 c 7#32 = ![pRow c 23, 0] := by
  revert c; decide

end Cert.KernelIdeal.Moe
-- ==== Proof.Contents.lean ====
/-
# What each buffer holds

The contents of the scratch buffers after each phase, as functions of the launch memory `m`.  `SG`
is the gathered result: it does not depend on the device that holds it.
-/
module

public import proofs.«01_k».proof.Proof.Mesh
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-! ## Rows of an array of 1024 rows -/

/-- The `k` rows of `x` from row `o` on. -/
def rows {α : Type} {n : ℕ} (k : ℕ) (x : (⟨2, ![1024, n]⟩ : Shape).Idx → α) (o : ℕ) : (⟨2, ![k, n]⟩ : Shape).Idx → α :=
  fun j => x (Shape.pair (d := ![1024, n]) ⟨(o + (j 0).val) % 1024, Nat.mod_lt _ (by decide)⟩ (j 1))

/-- The array made of one block of `k` rows for each of its starting rows. -/
def tiles {α : Type} {n : ℕ} (k : ℕ) (hk : 0 < k) (T : ℕ → (⟨2, ![k, n]⟩ : Shape).Idx → α) : (⟨2, ![1024, n]⟩ : Shape).Idx → α :=
  fun i => T ((i 0).val / k * k) (Shape.pair (d := ![k, n]) ⟨(i 0).val % k, Nat.mod_lt _ hk⟩ (i 1))

/-- The indices of the rows `o ≤ · < o + k`. -/
def rws (o k : ℕ) : Finset S1024x512.Idx := Finset.univ.filter fun i => o ≤ (i 0).val ∧ (i 0).val < o + k

theorem mem_rws {o k : ℕ} {i : S1024x512.Idx} : i ∈ rws o k ↔ o ≤ (i 0).val ∧ (i 0).val < o + k := by
  unfold rws; rw [Finset.mem_filter]; exact ⟨fun h => h.2, fun h => ⟨Finset.mem_univ _, h⟩⟩

/-! ## The arguments, as the kernel's staging buffers hold them -/

def X (c : Dev nD) : S1024x256.Idx → Elt F .f32 := iblk m c 0 t0_0
def RW (c : Dev nD) : S256x32.Idx → Elt F .f32 := iblk m c 1 t0_0
def IX (c : Dev nD) : S1024x1.Idx → Elt F .i32 := iblk m c 2 t0_0
def EW (c : Dev nD) : S4x256x512.Idx → Elt F .f32 := iblk m c 3 t0_0
def SW (c : Dev nD) : S256x512.Idx → Elt F .f32 := iblk m c 4 t0_0

/-! ## The local products -/

/-- The word of device `c`. -/
def wd (c : Dev nD) : BitVec 32 := Scalar.remsi (Scalar.divsi (Dev.word c) 1#32) 8#32

/-- The router's weight of each row, -/
def GT (c : Dev nD) : S1024x1.Idx → Elt F .f32 := k0_pay1 (X m c) (RW m c) (IX m c)
/-- the rows rounded, -/
def XB (c : Dev nD) : S1024x256.Idx → Elt F .bf16 := k0_pay3 (k0_pay2 (X m c))
/-- and the four experts' matrices above the shared one. -/
def WC (c : Dev nD) : S1280x512.Idx → Elt F .bf16 := fun i =>
  if h : (i 0).val < 1024 then k0_pay4 (EW m c) (Shape.pair (d := ![1024, 512]) ⟨(i 0).val, h⟩ (i 1))
  else k0_pay5 (SW m c) (Shape.pair (d := ![256, 512]) ⟨(i 0).val - 1024, by have : (i 0).val < 1280 := (i 0).isLt; show _ < 256; omega⟩ (i 1))

/-- The product of 256 rows, -/
def T256 (c : Dev nD) (o : ℕ) : S256x512.Idx → Elt F .bf16 :=
  k0_pay8 (wd c) (rows 256 (XB m c) o) (k0_pay6 (rows 256 (IX m c) o)) (rows 256 (GT m c) o) (k0_pay7 (rows 256 (X m c) o)) (WC m c)
/-- of 128 rows, rounded, -/
def T128 (c : Dev nD) (o : ℕ) : S128x512.Idx → Elt F .bf16 :=
  k0_pay21 (k0_pay20 (wd c) (rows 128 (XB m c) o) (rows 128 (IX m c) o) (rows 128 (GT m c) o) (rows 128 (X m c) o) (WC m c))
/-- and of the device's own 128 rows, not rounded. -/
def AC (c : Dev nD) : S128x512.Idx → Elt F .f32 :=
  k0_pay26 (wd c) (rows 128 (XB m c) (cRow c 0)) (k0_pay22 (rows 128 (IX m c) (cRow c 0)))
    (k0_pay23 (rows 128 (GT m c) (cRow c 0)) (rows 128 (X m c) (cRow c 0))) k0_pay24 (k0_pay25 (wd c)) (WC m c)

/-- What the device sends: the rows of its own pair of chunks by 128, all the others by 256. -/
def AB (c : Dev nD) : S1024x512.Idx → Elt F .bf16 := fun i =>
  if (i 0).val / 256 = vt c.val / 2 then tiles 128 (by decide) (T128 m c) i else tiles 256 (by decide) (T256 m c) i

/-! ## The reduced and the gathered rows -/

/-- What device `c` receives from its seven partners. -/
def RB (c : Dev nD) : S7x128x512.Idx → Elt F .bf16 := fun i =>
  AB m (xr c ((i 0).val + 1)) (Shape.pair (d := ![1024, 512]) ⟨(vt c.val * 128 + (i 1).val) % 1024, Nat.mod_lt _ (by decide)⟩ (i 2))

/-- The part from partner `j + 1`. -/
def RBs (c : Dev nD) (j : Fin 7) : S1x128x512.Idx → Elt F .bf16 := fun i => RB m c (Fin.cons j (fun a => i a.succ))

/-- The sum of the eight devices' rows of chunk `vt c`. -/
def RED (c : Dev nD) : S128x512.Idx → Elt F .bf16 :=
  k0_pay29 (k0_pay28 (k0_pay27 (AC m c) (RBs m c 5) (RBs m c 6) (RBs m c 1)) (RBs m c 2) (RBs m c 3)) (RBs m c 4) (RBs m c 0)

/-- The gathered result, -/
def SG : S1024x512.Idx → Elt F .bf16 :=
  tiles 128 (by decide) fun o => RED m ⟨vt (o / 128) % 8, Nat.mod_lt _ (by decide)⟩
/-- and its widening. -/
def OUT : S1024x512.Idx → Elt F .f32 := extf .f32 (SG m) bitsLt_bf16_f32

/-! ## Reading and writing whole rows -/

section Views

variable {Val : EltTy → Type}

theorem set_rows {n : ℕ} (off : Fin 2 → ℕ) (o : ℕ) (hoff : off = ![o, 0]) (inb : ∀ a, off a + (![n, 512] : Fin 2 → ℕ) a ≤ S1024x512.size a) :
    (Rect.unit (s := S1024x512) off ![n, 512] inb).set = rws o n := by
  subst hoff
  ext i
  rw [Rect.mem_set_unit, mem_rws]
  constructor
  · intro h; exact h 0
  · intro h a
    match a with
    | 0 => exact h
    | 1 => exact ⟨Nat.zero_le _, by have : (i 1).val < 512 := (i 1).isLt; show (i 1).val < 0 + 512; omega⟩

/-- A load of `k` rows. -/
theorem ld_rows {n k : ℕ} {e : EltTy} (v : View sig .tc .vmem ⟨2, ![1024, n]⟩ e) (f : v.ty.Contents Val) (off : Fin 2 → ℕ) (o : ℕ) (hoff : off = ![o, 0])
    (inb : ∀ a, off a + (![k, n] : Fin 2 → ℕ) a ≤ (⟨2, ![1024, n]⟩ : Shape).size a) :
    v.readAt Val (Rect.unit (s := ⟨2, ![1024, n]⟩) off ![k, n] inb).toLoadRect f = rows k (v.read Val f) o := by
  subst hoff
  funext j
  have hj : (j 0).val < k := (j 0).isLt
  have h0 : o + k ≤ 1024 := inb 0
  refine congrArg (v.read Val f) (funext fun a => Fin.ext ?_)
  match a with
  | 0 => show o + 1 * (j 0).val = (o + (j 0).val) % 1024; rw [Nat.mod_eq_of_lt (by omega)]; omega
  | 1 => show 0 + 1 * (j 1).val = (j 1).val; omega

/-- What an array holds after a write of `k` rows: the rows written, the others as before. -/
theorem upd_rows {α : Type} {k : ℕ} (f : S1024x512.Idx → α) (w : (⟨2, ![k, 512]⟩ : Shape).Idx → α) (off : Fin 2 → ℕ) (o : ℕ) (hoff : off = ![o, 0])
    (h : S1024x512.Slices off ⟨2, ![k, 512]⟩) (i : S1024x512.Idx) :
    updateSlice f w off h i = if hi : o ≤ (i 0).val ∧ (i 0).val < o + k then w (Shape.pair (d := ![k, 512]) ⟨(i 0).val - o, by show _ < k; omega⟩ (i 1)) else f i := by
  subst hoff
  unfold updateSlice
  by_cases hi : o ≤ (i 0).val ∧ (i 0).val < o + k
  · have hin : ∀ a : Fin 2, (![o, 0] : Fin 2 → ℕ) a ≤ (i a).val ∧ (i a).val < (![o, 0] : Fin 2 → ℕ) a + (![k, 512] : Fin 2 → ℕ) a := by
      intro a
      match a with
      | 0 => exact hi
      | 1 => exact ⟨Nat.zero_le _, by have : (i 1).val < 512 := (i 1).isLt; show (i 1).val < 0 + 512; omega⟩
    rw [dif_pos hi]
    refine (dif_pos hin).trans (congrArg w (funext fun a => Fin.ext ?_))
    match a with
    | 0 => rfl
    | 1 => show (i 1).val - 0 = (i 1).val; omega
  · rw [dif_neg hi]
    refine dif_neg fun hin => hi (hin 0)

end Views

/-- Writing a block at its place in an array made of blocks leaves that array there. -/
theorem tiles_at {α : Type} {k : ℕ} (hk : 0 < k) (T : ℕ → (⟨2, ![k, 512]⟩ : Shape).Idx → α) (q : ℕ) (i : S1024x512.Idx)
    (hi : q * k ≤ (i 0).val ∧ (i 0).val < q * k + k) :
    T (q * k) (Shape.pair (d := ![k, 512]) ⟨(i 0).val - q * k, by show _ < k; omega⟩ (i 1)) = tiles k hk T i := by
  have hq : (i 0).val / k = q := Nat.div_eq_of_lt_le (by omega) (by rw [Nat.succ_mul]; omega)
  have hr : (i 0).val % k = (i 0).val - q * k := by
    have := Nat.div_add_mod (i 0).val k; rw [hq, Nat.mul_comm] at this; omega
  unfold tiles
  rw [hq]
  exact congrArg (T (q * k)) (congrArg (fun a => Shape.pair (d := ![k, 512]) a (i 1)) (Fin.ext hr.symm))

end Cert.KernelIdeal.Moe

end
-- ==== Proof.Schedule.lean ====
/-
# The protocol: cells, what each unit of a cell hands over, levels, and what is owed

Every device has a barrier cell, a send and a receive cell for each reduce-scatter partner, and a
send and a receive cell for each all-gather transfer: 57 cells, numbered by `k`.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × URounds (GSem nD τ sig) ℕ

local notation "𝕄" => MT nD τ sig Unit (Elt F) ℕ UU ℕ

abbrev EP : Emb (UR sig nD τ) (MT nD τ sig Unit (Elt F) ℕ UU ℕ) := embL
abbrev ER : Emb (URounds (GSem nD τ sig) ℕ) (MT nD τ sig Unit (Elt F) ℕ UU ℕ) := embR
abbrev 𝒱₀ : Variants := Variants.none

variable (m : (ℓ : Loc nD τ sig) → Buf (Elt F) ℓ)

/-! ## Cells -/

/-- The barrier's semaphore. -/
abbrev barS : Sem sig := (SemArray.scalar (sig.barrier 0 rfl) : Sems sig S_).sem

/-- The semaphore of cell `k`: the barrier; reduce-scatter send (1–7) and receive (8–14) by partner;
    all-gather send (15–35) and receive (36–56). -/
def smk (k : ℕ) : SemLoc sig := if k = 0 then .reg barS else .dma ⟨(k + 5) % 62, Nat.mod_lt _ (by decide)⟩
/-- The number of a semaphore's cell (99 for one that is no cell of the protocol). -/
def kof : SemLoc sig → ℕ
  | .reg _ => 0
  | .dma s => if s.val < 6 then 99 else s.val - 5
/-- Cell `k` of device `c`. -/
abbrev kcell (c : Dev nD) (k : ℕ) : GSem nD τ sig := ((c : Thread nD τ), smk k)

theorem kof_smk : ∀ k < 57, kof (smk k) = k := by decide
theorem smk_ne_zero : ∀ k < 57, k ≠ 0 → smk k ≠ smk 0 := by decide

/-! ## Transfers by semaphore -/

/-- The all-gather transfer that uses semaphore `x`. -/
def agX (x : ℕ) : ℕ := [0,1,2,9,10,15,16, 3,4,5,11,12,17,18, 6,7,8,13,14,19,20].getD x 0
theorem agX_agI : ∀ i < 21, agX (agI i) = i := by decide
theorem ivR_rvI : ∀ r < 21, ivR (rvI r) = r := by decide
theorem agI_lt : ∀ i < 21, agI i < 21 := by decide
theorem rvI_lt : ∀ i < 21, rvI i < 21 := by decide
theorem rsJ_bd : ∀ i < 7, 1 ≤ rsJ i ∧ rsJ i < 8 := by decide

/-- The units of cell `k`. -/
def amtK (k : ℕ) : ℕ := if k = 0 then 1 else if k < 15 then 4096 else if k < 36 then pLen (agP (agX (k - 15))) * 32 else pLen (3 + ivR (k - 36)) * 32
theorem amtK_pos : ∀ k < 57, 0 < amtK k := by decide

/-! ## Buffers -/

abbrev accL (c : Dev nD) : Loc nD τ sig := (c : Thread nD τ).loc cc0_scratch1
abbrev stL (c : Dev nD) : Loc nD τ sig := (c : Thread nD τ).loc cc0_scratch2
abbrev rbL (c : Dev nD) : Loc nD τ sig := (c : Thread nD τ).loc cc0_scratch4
abbrev outL (c : Dev nD) : Loc nD τ sig := (c : Thread nD τ).loc cc0_stg5_0

/-- The four shares of a piece: one for each of up to three transfers, one to read from. -/
def qt (t : ℕ) : PosShare TreeShare := if t = 0 then fullShare.left.left else if t = 1 then fullShare.left.right else if t = 2 then fullShare.right.left else fullShare.right.right

/-- The rows of partner `j + 1`'s part in the receive buffer. -/
def slt (j : ℕ) : Finset S7x128x512.Idx := Finset.univ.filter fun i => (i 0).val = j

/-- Piece `p` of the gathered result, on device `c`. -/
def Piece (c : Dev nD) (p : ℕ) (q : PosShare TreeShare) : sProp 𝕄 := iprop(stL c ↦[rws (pRow c p) (pLen p)]{q} (SG m : Buf (Elt F) (stL c)))
/-- The rows a transfer lands on, before it does. -/
def Hole (c : Dev nD) (o n : ℕ) : sProp 𝕄 := iprop(∃ f : Buf (Elt F) (stL c), stL c ↦[rws o n]{fullShare} f)
/-- The chunk of products for partner `j`. -/
def accP (c : Dev nD) (j : ℕ) : sProp 𝕄 := iprop(accL c ↦[rws (cRow c j) 128]{fullShare} (AB m c : Buf (Elt F) (accL c)))
/-- The part received from partner `j + 1`, -/
def rbP (c : Dev nD) (j : ℕ) : sProp 𝕄 := iprop(rbL c ↦[slt j]{fullShare} (RB m c : Buf (Elt F) (rbL c)))
/-- and its place before. -/
def rbHole (c : Dev nD) (j : ℕ) : sProp 𝕄 := iprop(∃ f : Buf (Elt F) (rbL c), rbL c ↦[slt j]{fullShare} f)

/-- What device `xr c j` hands device `c` with its barrier signal: the places where `c`'s transfers to it land. -/
def barPay (c : Dev nD) (j : ℕ) : sProp 𝕄 :=
  iprop(rbHole (xr c j) (j - 1) ∗ bigSep ((Finset.range 21).filter fun i => agM i = j) fun i => Hole (F := F) (xr c j) (pRow c (agP i)) (pLen (agP i)))

/-- What the units of cell `k` of device `c` hand over. -/
def payK (c : Dev nD) (k d : ℕ) : sProp 𝕄 :=
  if k = 0 then barPay c d
  else if k < 8 then accP m c k
  else if k < 15 then rbP m c (k - 8)
  else if k < 36 then Piece m c (agP (agX (k - 15))) (qt (agT (agX (k - 15))))
  else Piece m c (3 + ivR (k - 36)) fullShare

omit [FloatOps F] in
instance Hole_storable (c : Dev nD) (o n : ℕ) : BI.Storable (upEmb : UEmb _ 𝕄) (Hole (F := F) c o n) := by unfold Hole; infer_instance
omit [FloatOps F] in
instance rbHole_storable (c : Dev nD) (o : ℕ) : BI.Storable (upEmb : UEmb _ 𝕄) (rbHole (F := F) c o) := by unfold rbHole; infer_instance
omit [FloatOps F] in
instance barPay_storable (c : Dev nD) (j : ℕ) : BI.Storable (upEmb : UEmb _ 𝕄) (barPay (F := F) c j) := by unfold barPay; infer_instance

/-- The duties of cell `k`: partners for the barrier, a single one for a transfer's cell. -/
def dutK (k : ℕ) : Finset ℕ := if k = 0 then Finset.Ico 1 8 else if k < 57 then {0} else ∅

/-- The protocol: one round. -/
def sched : Rounds.Schedule (GSem nD τ sig) ℕ 𝕄 where
  duties g r := if r = 0 ∧ g.1.2 = .tc then dutK (kof g.2) else ∅
  unitless _ := False
  amount g _ _ := if kof g.2 < 57 then amtK (kof g.2) else 1
  payload g _ d := payK m g.1.1 (kof g.2) d
  amount_pos g _ _ _ := by
    by_cases h : kof g.2 < 57
    · rw [if_pos h]; exact amtK_pos _ h
    · rw [if_neg h]; exact Nat.one_pos

instance sched_payload_storable (g : GSem nD τ sig) (r d : ℕ) : BI.Storable (upEmb : UEmb _ 𝕄) ((sched (F := F) m).payload g r d) := by
  show BI.Storable upEmb (payK m g.1.1 (kof g.2) d)
  unfold payK accP rbP Piece
  (repeat' split) <;> infer_instance

section Sched
variable (c : Dev nD) {k : ℕ}

theorem duties_k (hk : k < 57) : (sched (F := F) m).duties (kcell c k) 0 = dutK k := by
  dsimp only [sched]; rw [if_pos ⟨rfl, rfl⟩, kof_smk k hk]
theorem duties_later (g : GSem nD τ sig) : ∀ r, 1 ≤ r → (sched (F := F) m).duties g r = ∅ :=
  fun r hr => by dsimp only [sched]; exact if_neg fun h => by omega
theorem amount_k (hk : k < 57) (d : ℕ) : (sched (F := F) m).amount (kcell c k) 0 d = amtK k := by
  dsimp only [sched]; rw [kof_smk k hk, if_pos hk]
theorem payload_k (hk : k < 57) (d : ℕ) : (sched (F := F) m).payload (kcell c k) 0 d = payK m c k d := by
  dsimp only [sched]; rw [kof_smk k hk]
theorem expect_bar : (sched (F := F) m).expect (kcell c 0) 0 = 7 := by
  unfold Schedule.expect Schedule.amountOf
  rw [duties_k m c (by decide), Finset.sum_congr rfl (fun d _ => amount_k m c (by decide) d)]
  decide
theorem expect_k (hk : k < 57) (h0 : k ≠ 0) : (sched (F := F) m).expect (kcell c k) 0 = amtK k := by
  unfold Schedule.expect Schedule.amountOf
  rw [duties_k m c hk, Finset.sum_congr rfl (fun d _ => amount_k m c hk d)]
  unfold dutK; rw [if_neg h0, if_pos hk, Finset.sum_singleton]
theorem rest_bar : bigSep ((sched (F := F) m).duties (kcell c 0) 0 \ ∅) (fun d => (sched (F := F) m).payload (kcell c 0) 0 d) = bigSep (Finset.Ico 1 8) (barPay (F := F) c) := by
  rw [Finset.sdiff_empty, duties_k m c (by decide)]
  exact bigSep_congr fun d _ => (payload_k m c (by decide) d).trans (if_pos rfl)
theorem rest_k (hk : k < 57) (h0 : k ≠ 0) : bigSep ((sched (F := F) m).duties (kcell c k) 0 \ ∅) (fun d => (sched (F := F) m).payload (kcell c k) 0 d) = payK m c k 0 := by
  rw [Finset.sdiff_empty, duties_k m c hk]
  unfold dutK; rw [if_neg h0, if_pos hk, bigSep_singleton, payload_k m c hk]
theorem mem_dutK (hk : k < 57) (h0 : k ≠ 0) : 0 ∈ (sched (F := F) m).duties (kcell c k) 0 := by
  rw [duties_k m c hk]; unfold dutK; rw [if_neg h0, if_pos hk]; exact Finset.mem_singleton_self _

end Sched

/-! ## What each device owes, in program order -/

def obM (n : ℕ) : ℕ := if n < 7 then n + 1 else if n < 14 then rsJ (n - 7) else agM (n - 14)
def obK (n : ℕ) : ℕ := if n < 7 then 0 else if n < 14 then 7 + rsJ (n - 7) else 36 + agI (n - 14)

theorem obK_lt : ∀ n < 35, obK n < 57 := by decide

/-- What device `c` still owes when it has done the first `n`. -/
def Osum (c : Dev nD) (n : ℕ) : CellTallies nD τ sig Unit := ∑ i ∈ Finset.Ico n 35, tallyAt (kcell (xr c (obM i)) (obK i)) () (amtK (obK i))

theorem Osum_succ (c : Dev nD) {n : ℕ} (h : n < 35) : Osum c n = Osum c (n + 1) + tallyAt (kcell (xr c (obM n)) (obK n)) () (amtK (obK n)) := by
  unfold Osum
  rw [show Finset.Ico n 35 = insert n (Finset.Ico (n + 1) 35) by ext x; simp only [Finset.mem_Ico, Finset.mem_insert]; omega,
    Finset.sum_insert (by rw [Finset.mem_Ico]; omega), add_comm]
theorem Osum_end (c : Dev nD) : Osum c 35 = 0 := by unfold Osum; rw [Finset.Ico_self, Finset.sum_empty]

/-! ## Levels -/

def lvK (k : ℕ) : ℕ := if k = 0 then 1 else if k < 8 then 0 else if k < 15 then 2 else if k < 36 then 0 else if k < 57 then [3,3,3,4,4,5,5].getD ((k - 36) % 7) 0 else 0
def L (g : GSem nD τ sig) : Finset Unit := if g.1.2 = .tc then {()} else ∅
def lv (g : GSem nD τ sig) (_ : Unit) : ℕ := lvK (kof g.2)
theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) {k : ℕ} (hk : k < 57) (u : Unit) : lv (kcell c k) u = lvK k := by unfold lv; rw [kof_smk k hk]

theorem Osum_pos {c : Dev nD} {n : ℕ} {g : GSem nD τ sig} {u : Unit} (h : 0 < Osum c n g u) :
    ∃ i, n ≤ i ∧ i < 35 ∧ g = kcell (xr c (obM i)) (obK i) := by
  by_contra hn
  have h0 : Osum c n g u = 0 := by
    unfold Osum
    rw [Finset.sum_apply, Finsupp.finset_sum_apply]
    refine Finset.sum_eq_zero fun i hi => ?_
    rw [tallyAt_apply, if_neg]
    rintro ⟨rfl, -⟩
    exact hn ⟨i, (Finset.mem_Ico.mp hi).1, (Finset.mem_Ico.mp hi).2, rfl⟩
  omega

omit [FloatOps F] in
/-- A device may wait on a cell whose level is below that of all it still owes. -/
theorem mayWait (c : Dev nD) (sm : SemLoc sig) (n : ℕ) (h : ∀ i < 35, n ≤ i → lvK (kof sm) < lvK (obK i)) :
    (levAts L lv : sProp 𝕄) ⊢ MayWait (c : Thread nD τ) sm () (Osum c n) :=
  Pipeline.mayWait_of_levAts (by rw [L_tc]; exact Finset.mem_singleton_self _) fun g u hg => by
    obtain ⟨i, h1, h2, rfl⟩ := Osum_pos hg
    exact ⟨by rw [L_tc]; exact Finset.mem_singleton_self _, by rw [lv_k _ (obK_lt i h2)]; exact h i h2 h1⟩

/-! ## What the launch makes known to every device -/

variable (K : Dev nD × Fin 57 → ℕ)

/-- Every cell's invariant, and that round 0 is reached. -/
def records : sProp 𝕄 :=
  iprop((bigSep Finset.univ fun ck : Dev nD × Fin 57 => cellInv ER (sched m) (K ck) (kcell ck.1 ck.2.val))
    ∗ bigSep Finset.univ fun ck : Dev nD × Fin 57 => reached (ER (F := F)) (kcell ck.1 ck.2.val) 0)
instance records_persistent : BI.Persistent (records m K) := by unfold records; infer_instance

theorem rec_inv (c : Dev nD) {k : ℕ} (hk : k < 57) : records m K ⊢ cellInv ER (sched m) (K (c, ⟨k, hk⟩)) (kcell c k) := by
  have h : (bigSep Finset.univ fun ck : Dev nD × Fin 57 => cellInv ER (sched m) (K ck) (kcell ck.1 ck.2.val)) ⊢ cellInv ER (sched m) (K (c, ⟨k, hk⟩)) (kcell c k) :=
    bigSep_elim (Finset.mem_univ ((c, ⟨k, hk⟩) : Dev nD × Fin 57))
  unfold records
  iintro ⟨H, -⟩
  iapply h $$ H
theorem rec_reached (c : Dev nD) {k : ℕ} (hk : k < 57) : records m K ⊢ reached (ER (F := F)) (kcell c k) 0 := by
  have h : (bigSep Finset.univ fun ck : Dev nD × Fin 57 => reached (ER (F := F)) (kcell ck.1 ck.2.val) 0) ⊢ reached (ER (F := F)) (kcell c k) 0 :=
    bigSep_elim (Finset.mem_univ ((c, ⟨k, hk⟩) : Dev nD × Fin 57))
  unfold records
  iintro ⟨-, H⟩
  iapply h $$ H

/-- With the levels. -/
def Ctx : sProp 𝕄 := iprop(records m K ∗ levAts L lv)
instance Ctx_persistent : BI.Persistent (Ctx m K) := by unfold Ctx; infer_instance

end Cert.KernelIdeal.Moe

end
-- ==== Proof.Steps.lean ====
/-
# One step of the protocol at a time

The state of the all-gather on a device, and what each of its operations does to it: a transfer, the
wait for a received piece, and the wait for a transfer that has left.
-/
module

public import proofs.«01_k».proof.Proof.Schedule

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ)

/-- A program of device `c`'s core. -/
abbrev CoreProg (F : FTy → Type) [FloatOps F] (α : Type) : Type 1 := Prog (TpuEff nD τ sig (Elt F) Λ₀ .tc) α

/-- What device `c` has to hold to run `p` to `Q`. -/
abbrev Runs (c : Dev nD) {α : Type} (p : CoreProg F α) (Q : α → sProp 𝕄) : sProp 𝕄 :=
  wp frame (wpE (defs₀ (F := F)) 𝒱₀ (c : Thread nD τ) none) Set.univ p Q

/-! ## Any cell of a transfer -/

/-- What device `c` owes when it has done its first `n` duties. -/
def Ow (c : Dev nD) (n : ℕ) : sProp 𝕄 := iprop(∃ W, owes (c : Thread nD τ) (Osum c n) W)

/-- Waiting on a transfer's own cell: what the cell hands over, and the cell closed at zero. -/
theorem cell_wait (c : Dev nD) {k n : ℕ} (hk : k < 57) (h0 : k ≠ 0) (hlv : ∀ i < 35, n ≤ i → lvK k < lvK (obK i))
    {sem : DmaSem sig} (hS : SemLoc.dma sem = smk k) {sp sp' : Space} {s s' : Shape} {e e' : EltTy}
    {src : Memref sig .tc sp' s' e'} {dst : Memref sig .tc sp s e} (hN : dst.view.dmaCredit = amtK k)
    {hsrc : src.view.WordExact} {hdst : dst.view.WordExact} {α : Type} {kk : PUnit → CoreProg F α} {Q : α → sProp 𝕄} :
    iprop(Ctx m K ∗ Ow c n ∗ atPos ER (kcell c k) 0 ∅ 0 ∗ cred (tallyAt (kcell c k) () (amtK k)))
      ⊢ iprop(((Ow c n ∗ payK m c k 0 ∗ semVal (kcell c k) 0) -∗ Runs c (kk ⟨⟩) Q)
          -∗ Runs c (.op (.waitDma2 sem src dst hsrc hdst) kk) Q) := by
  unfold Ctx Ow
  iintro ⟨⟨#HR, #HL⟩, ⟨%W, HO⟩, Hat, Hc⟩ Hk
  ihave #HI := (rec_inv m K c hk) $$ HR
  iapply (Rounds.wp_wait_rest_token 𝒱₀ ER (sched m) (c : Thread nD τ) none (κ := K (c, ⟨k, hk⟩)) (sm := smk k) (k' := amtK k)
      (fun P => by rw [← hS, ← hN]; exact wpE_waitDma2_eq 𝒱₀ (c : Thread nD τ) none Set.univ P) (Set.mem_univ _) () (O := Osum c n) (W := W) (R := 0) (m := 0) (T := ∅)
      (by rw [Nat.zero_add]; exact (expect_k m c hk h0).symm)) $$ [Hc HO Hat]
  · isplitr; · iexact HI
    isplitl [Hc]; · iexact Hc
    isplitl [HO]; · iexact HO
    isplitr
    · iapply (mayWait c (smk k) n (fun i h1 h2 => by rw [kof_smk k hk]; exact hlv i h1 h2)); iexact HL
    iexact Hat
  iintro ⟨HO, Hat, -, Hpay⟩
  ihave Hp := (Entails.of_eq (rest_k m c hk h0)) $$ Hpay
  imod (Rounds.cell_close ER (sched m) (Set.mem_univ (K (c, ⟨k, hk⟩))) (fun h => h) (R := 0 + 1) (duties_later m (kcell c k))) $$ [Hat] with Hz
  · isplitr; · iexact HI
    iexact Hat
  iapply Hk
  isplitl [HO]; · iexists _; iexact HO
  isplitl [Hp] <;> iassumption

/-- Starting a transfer to the device that differs by `j`: the `n`-th duty. -/
theorem cell_send (c : Dev nD) {k₁ k₂ j n : ℕ} (h₁ : k₁ < 57) (h₁' : k₁ ≠ 0) (h₂ : k₂ < 57) (h₂' : k₂ ≠ 0) (hn : n < 35) (hM : obM n = j) (hK : obK n = k₂)
    (hA : amtK k₁ = amtK k₂) {d : Dev nD} (hd : d = xr c j) {sS sR : SemLoc sig} (hS : sS = smk k₁) (hR : sR = smk k₂)
    {sp sp' : Space} {s : Shape} {e : EltTy} {src : Memref sig .tc sp s e} {dst : Memref sig .tc sp' s e} (hN : dst.view.dmaCredit = amtK k₂)
    {hsc : dst.view.ref.isScScratch = false} {hsrc : src.view.WordExact} {hdst : dst.view.WordExact}
    {hsem : DmaTarget.Typed (nD := nD) (τ := τ) sp sR (.remote (p := .tc) (Dev.tc d : Thread nD τ) dst sS hsc)}
    {q : PosShare TreeShare} {fs : Buf (Elt F) (src.view.loc (c : Thread nD τ))}
    {fd : Buf (Elt F) (dst.view.loc (xr c j : Thread nD τ))}
    (hpay₁ : (src.view.loc (c : Thread nD τ) ↦[src.view.set]{q} fs) ⊢ payK m c k₁ 0)
    (hpay₂ : (dst.view.loc (xr c j : Thread nD τ) ↦[dst.view.set]{fullShare} (dst.view.write (Elt F) fd (src.view.read (Elt F) fs) Finset.univ)) ⊢ payK m (xr c j) k₂ 0)
    {α : Type} {kk : PUnit → CoreProg F α} {Q : α → sProp 𝕄} :
    iprop(Ctx m K ∗ Ow c n ∗ dutyTok ER (kcell c k₁) 0 0 ∗ dutyTok ER (kcell (xr c j) k₂) 0 0
        ∗ (src.view.loc (c : Thread nD τ) ↦[src.view.set]{q} fs) ∗ (dst.view.loc (xr c j : Thread nD τ) ↦[dst.view.set]{fullShare} fd))
      ⊢ iprop(((Ow c (n + 1) ∗ cred (tallyAt (kcell c k₁) () (amtK k₁))) -∗ Runs c (kk ⟨⟩) Q)
          -∗ Runs c (.op (.enqueueDma src (.remote (Dev.tc d : Thread nD τ) dst sS hsc) sR hsrc hdst hsem) kk) Q) := by
  subst hd hS hR hM hK
  unfold Ctx Ow
  iintro ⟨⟨#HR, #HL⟩, ⟨%W, HO⟩, Ht1, Ht2, Hs, Hd⟩ Hk
  ihave #HI1 := (rec_inv m K c h₁) $$ HR
  ihave #HI2 := (rec_inv m K (xr c (obM n)) h₂) $$ HR
  ihave #Hr1 := (rec_reached m K c h₁) $$ HR
  ihave #Hr2 := (rec_reached m K (xr c (obM n)) h₂) $$ HR
  have hcr : dst.view.amount (smk (obK n)) = amtK (obK n) := by
    rw [← hN]; unfold smk; rw [if_neg h₂']
  iapply (Rounds.wp_send_pointsTo 𝒱₀ ER (sched m) (c : Thread nD τ) none (κ₁ := K (c, ⟨k₁, h₁⟩)) (κ₂ := K (xr c (obM n), ⟨obK n, h₂⟩))
    (r₁ := 0) (r₂ := 0) (d₁ := 0) (d₂ := 0) (fd := fd) (fs := fs) (mem_dutK m c h₁ h₁') (mem_dutK m (xr c (obM n)) h₂ h₂')
    () () (amtK (obK n)) hcr ((amount_k m c h₁ 0).trans hA) (amount_k m (xr c (obM n)) h₂ 0) (Osum c (n + 1)) (Osum_succ c hn) (W := W)
    (by rw [payload_k m c h₁]; exact hpay₁) (by rw [payload_k m (xr c (obM n)) h₂]; exact hpay₂)) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  rw [hA]; iexact Hc

/-- A transfer of elements to the same elements carries them over. -/
theorem write_read_same {Val : EltTy → Type} {κ : Kind} {sp : Space} {s : Shape} {e : EltTy} (v : View sig κ sp s e) (f g : v.ty.Contents Val) (i) (hi : i ∈ v.set) :
    v.write Val f (v.read Val g) Finset.univ i = g i := by
  rw [View.write_read_eq_piecewise]
  exact Finset.piecewise_eq_of_mem _ _ _ hi

end Cert.KernelIdeal.Moe

end
-- ==== Proof.Gather.lean ====
/-
# The all-gather's state

What device `c` holds when `ns` transfers have been started, `nr` pieces received, `nw` of the started
transfers waited for and `nc` pieces widened into the result; and how each operation moves one of the
four numbers on by one.
-/
module

public import proofs.«01_k».proof.Proof.Steps
public import Idealize.SL.BI.BigOpNat
public import Idealize.ShloMosaic.Lib.Pipeline.Value

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ)

/-! ## The parts of the state -/

/-- For a transfer still to be started: the tokens of its two cells, its send cell's position, its landing rows. -/
def agTodo (c : Dev nD) (i : ℕ) : sProp 𝕄 :=
  iprop(dutyTok ER (kcell c (15 + agI i)) 0 0 ∗ dutyTok ER (kcell (xr c (agM i)) (36 + agI i)) 0 0
    ∗ atPos ER (kcell c (15 + agI i)) 0 ∅ 0 ∗ Hole (xr c (agM i)) (pRow c (agP i)) (pLen (agP i)))
/-- For one started and not waited for. -/
def agPend (c : Dev nD) (i : ℕ) : sProp 𝕄 :=
  iprop(atPos ER (kcell c (15 + agI i)) 0 ∅ 0 ∗ cred (tallyAt (kcell c (15 + agI i)) () (amtK (15 + agI i))))
/-- For one waited for. -/
def agDone (c : Dev nD) (i : ℕ) : sProp 𝕄 := semVal (kcell c (15 + agI i)) 0
/-- For a piece still to be received, -/
def agWait (c : Dev nD) (r : ℕ) : sProp 𝕄 :=
  iprop(atPos ER (kcell c (36 + rvI r)) 0 ∅ 0 ∗ cred (tallyAt (kcell c (36 + rvI r)) () (amtK (36 + rvI r))))
/-- and for one received. -/
def agGot (c : Dev nD) (r : ℕ) : sProp 𝕄 := semVal (kcell c (36 + rvI r)) 0

/-- Whether share `t` of piece `p` is with one of the transfers `nw ≤ i < ns`. -/
def away (nw ns : ℕ) (pt : ℕ × ℕ) : Prop := ∃ i ∈ Finset.Ico nw ns, agP i = pt.1 ∧ agT i = pt.2
instance (nw ns : ℕ) (pt : ℕ × ℕ) : Decidable (away nw ns pt) := by unfold away; infer_instance

/-- The reading shares of the first `n` pieces, -/
def Reads (c : Dev nD) (n : ℕ) : sProp 𝕄 := bigSep (Finset.range n) fun p => Piece m c p (qt 3)
/-- and their other shares, less those away. -/
def Outs (c : Dev nD) (nw ns n : ℕ) : sProp 𝕄 :=
  bigSep (Finset.range n) fun p => bigSep (Finset.range 3) fun t => if away nw ns (p, t) then iprop(emp) else Piece m c p (qt t)

/-- The result buffer with the first `n` pieces widened into it. -/
def OutInv (c : Dev nD) (n : ℕ) : sProp 𝕄 :=
  iprop(∃ f : Buf (Elt F) (outL c), ⌜∀ j < n, ∀ i ∈ rws (pRow c (cvP j)) (pLen (cvP j)), (f : S1024x512.Idx → Elt F .f32) i = OUT m i⌝ ∗ outL c ↦{fullShare} f)

/-- The whole state. -/
def G (c : Dev nD) (ns nr nw nc : ℕ) : sProp 𝕄 :=
  iprop(Ctx m K ∗ Ow c (14 + ns) ∗ bigSep (Finset.Ico ns 21) (agTodo c) ∗ bigSep (Finset.Ico nw ns) (agPend c) ∗ bigSep (Finset.range nw) (agDone c)
    ∗ bigSep (Finset.Ico nr 21) (agWait c) ∗ bigSep (Finset.range nr) (agGot c) ∗ Reads m c (3 + nr) ∗ Outs m c nw ns (3 + nr) ∗ OutInv m c nc)

/-! ## Shares -/

omit [FloatOps F] in
theorem sep_emp_eq (P : sProp 𝕄) : iprop(P ∗ emp) = P := equiv_iff.mp BI.sep_emp
omit [FloatOps F] in
theorem emp_sep_eq (P : sProp 𝕄) : iprop(emp ∗ P) = P := equiv_iff.mp BI.emp_sep
omit [FloatOps F] in
/-- Two statements that entail each other are equal. -/
theorem eq_of {P Q : sProp 𝕄} (h₁ : P ⊢ Q) (h₂ : Q ⊢ P) : P = Q := equiv_iff.mp ⟨h₁, h₂⟩

/-- Any elements held outright are four shares of them. -/
theorem pointsTo_quarters {ℓ : Loc nD τ sig} {S : Finset ℓ.ty.Idx} {f : Buf (Elt F) ℓ} :
    (ℓ ↦[S]{fullShare} f : sProp 𝕄) = iprop(((ℓ ↦[S]{qt 0} f) ∗ (ℓ ↦[S]{qt 1} f)) ∗ (ℓ ↦[S]{qt 2} f) ∗ (ℓ ↦[S]{qt 3} f)) := by
  have h : (ℓ ↦[S]{fullShare} f : sProp 𝕄) = iprop((ℓ ↦[S]{fullShare.left} f) ∗ (ℓ ↦[S]{fullShare.right} f)) :=
    eq_of (pointsTo_share (PosShare.mem_left_op_right fullShare)).1 (pointsTo_share (PosShare.mem_left_op_right fullShare)).2
  have hl : (ℓ ↦[S]{fullShare.left} f : sProp 𝕄) = iprop((ℓ ↦[S]{qt 0} f) ∗ (ℓ ↦[S]{qt 1} f)) :=
    eq_of (pointsTo_share (PosShare.mem_left_op_right fullShare.left)).1 (pointsTo_share (PosShare.mem_left_op_right fullShare.left)).2
  have hr : (ℓ ↦[S]{fullShare.right} f : sProp 𝕄) = iprop((ℓ ↦[S]{qt 2} f) ∗ (ℓ ↦[S]{qt 3} f)) :=
    eq_of (pointsTo_share (PosShare.mem_left_op_right fullShare.right)).1 (pointsTo_share (PosShare.mem_left_op_right fullShare.right)).2
  rw [h, hl, hr]

/-- So a piece is its reading share and the three others. -/
theorem Piece_quarters (c : Dev nD) (p : ℕ) :
    Piece m c p fullShare = iprop(Piece m c p (qt 3) ∗ bigSep (Finset.range 3) fun t => Piece m c p (qt t)) := by
  have e : (bigSep (Finset.range 3) fun t => Piece m c p (qt t)) = iprop(Piece m c p (qt 2) ∗ Piece m c p (qt 1) ∗ Piece m c p (qt 0)) := by
    rw [bigSep_range_succ, bigSep_range_succ, bigSep_range_succ, Finset.range_zero, bigSep_empty]
    exact congrArg (fun P => iprop(Piece m c p (qt 2) ∗ Piece m c p (qt 1) ∗ P)) (sep_emp_eq _)
  rw [e]
  unfold Piece
  rw [pointsTo_quarters]
  apply eq_of
  · iintro ⟨⟨H0, H1⟩, H2, H3⟩
    isplitl [H3]; · iexact H3
    isplitl [H2]; · iexact H2
    isplitl [H1] <;> iassumption
  · iintro ⟨H3, H2, H1, H0⟩
    isplitl [H0 H1]
    · isplitl [H0] <;> iassumption
    isplitl [H2] <;> iassumption

theorem away_self (nw i : ℕ) (hi : i < 21) : ¬ away nw i (agP i, agT i) := by
  rintro ⟨j, hj, h1, h2⟩
  have hji : j < i := (Finset.mem_Ico.mp hj).2
  have key : ∀ i < 21, ∀ j < i, ¬ (agP j = agP i ∧ agT j = agT i) := by decide
  exact key i hi j hji ⟨h1, h2⟩
theorem away_self' (i ns : ℕ) (hn : ns ≤ 21) : ¬ away (i + 1) ns (agP i, agT i) := by
  rintro ⟨j, hj, h1, h2⟩
  have h := Finset.mem_Ico.mp hj
  have key : ∀ j < 21, ∀ i < j, ¬ (agP j = agP i ∧ agT j = agT i) := by decide
  exact key j (by omega) i (by omega) ⟨h1, h2⟩

theorem agT_lt : ∀ i < 21, agT i < 3 := by decide

/-- A family with a part of one member taken out, -/
theorem bigSep_take {I : Type} [DecidableEq I] {s : Finset I} {i : I} (h : i ∈ s) {Φ Ψ : I → sProp 𝕄} {A : sProp 𝕄} (hΦ : Φ i = iprop(A ∗ Ψ i))
    (he : ∀ j, j ≠ i → Φ j = Ψ j) : bigSep s Φ = iprop(A ∗ bigSep s Ψ) := by
  rw [bigSep_erase h, bigSep_erase h (Φ := Ψ), hΦ]
  refine (eq_of BI.sep_assoc BI.sep_assoc').trans ?_
  exact congrArg (fun P => iprop(A ∗ Ψ i ∗ P)) (bigSep_congr fun j hj => he j (Finset.ne_of_mem_erase hj))

/-- and the pieces' shares with one taken out. -/
theorem shares_take (c : Dev nD) {n p₀ t₀ a b a' b' : ℕ} (hp : p₀ < n) (ht : t₀ < 3) (h : ¬ away a b (p₀, t₀)) (h' : away a' b' (p₀, t₀))
    (he : ∀ p t, ¬ (p = p₀ ∧ t = t₀) → (away a b (p, t) ↔ away a' b' (p, t))) :
    Outs m c a b n = iprop(Piece m c p₀ (qt t₀) ∗ Outs m c a' b' n) := by
  unfold Outs
  refine bigSep_take (Finset.mem_range.mpr hp) ?_ fun p hne => bigSep_congr fun t _ => by simp only [he p t fun hh => hne hh.1]
  exact bigSep_take (Finset.mem_range.mpr ht) (by rw [if_neg h, if_pos h', sep_emp_eq]) fun t hne => by simp only [he p₀ t fun hh => hne hh.2]

/-- Starting transfer `i` takes one share of its piece, -/
theorem Outs_send (c : Dev nD) {nw i n : ℕ} (hi : i < 21) (hw : nw ≤ i) (hp : agP i < n) :
    Outs m c nw i n = iprop(Piece m c (agP i) (qt (agT i)) ∗ Outs m c nw (i + 1) n) := by
  refine shares_take m c hp (agT_lt i hi) (away_self nw i hi) ⟨i, Finset.mem_Ico.mpr ⟨hw, Nat.lt_succ_self i⟩, rfl, rfl⟩ fun p t hne => ?_
  · constructor
    · rintro ⟨j, hj, h⟩
      exact ⟨j, Finset.mem_Ico.mpr ⟨(Finset.mem_Ico.mp hj).1, by have := (Finset.mem_Ico.mp hj).2; omega⟩, h⟩
    · rintro ⟨j, hj, h⟩
      refine ⟨j, Finset.mem_Ico.mpr ⟨(Finset.mem_Ico.mp hj).1, ?_⟩, h⟩
      rcases Nat.lt_succ_iff_lt_or_eq.mp (Finset.mem_Ico.mp hj).2 with h' | h'
      · exact h'
      · subst h'; exact absurd ⟨h.1.symm, h.2.symm⟩ hne

/-- the wait for it puts the share back, -/
theorem Outs_back (c : Dev nD) {i ns n : ℕ} (hi : i < ns) (hns : ns ≤ 21) (hp : agP i < n) :
    Outs m c (i + 1) ns n = iprop(Piece m c (agP i) (qt (agT i)) ∗ Outs m c i ns n) := by
  refine shares_take m c hp (agT_lt i (by omega)) (away_self' i ns hns) ⟨i, Finset.mem_Ico.mpr ⟨le_refl i, hi⟩, rfl, rfl⟩ fun p t hne => ?_
  · constructor
    · rintro ⟨j, hj, h⟩
      exact ⟨j, Finset.mem_Ico.mpr ⟨by have := (Finset.mem_Ico.mp hj).1; omega, (Finset.mem_Ico.mp hj).2⟩, h⟩
    · rintro ⟨j, hj, h⟩
      refine ⟨j, Finset.mem_Ico.mpr ⟨?_, (Finset.mem_Ico.mp hj).2⟩, h⟩
      rcases Nat.eq_or_lt_of_le (Finset.mem_Ico.mp hj).1 with h' | h'
      · subst h'; exact absurd ⟨h.1.symm, h.2.symm⟩ hne
      · exact h'

/-- and a piece that comes in adds all its shares. -/
theorem Outs_recv (c : Dev nD) {nw ns n : ℕ} (h : ∀ i < ns, agP i ≠ n) :
    iprop(Reads m c (n + 1) ∗ Outs m c nw ns (n + 1)) = iprop(Piece m c n fullShare ∗ Reads m c n ∗ Outs m c nw ns n) := by
  unfold Reads Outs
  rw [bigSep_range_succ, bigSep_range_succ, Piece_quarters]
  have hn : ∀ t, ¬ away nw ns (n, t) := by
    rintro t ⟨j, hj, h1, -⟩
    exact h j (Finset.mem_Ico.mp hj).2 h1
  simp only [if_neg (hn _)]
  apply eq_of
  · iintro ⟨⟨A, B⟩, C, D⟩
    isplitl [A C]; · isplitl [A] <;> iassumption
    isplitl [B] <;> iassumption
  · iintro ⟨⟨A, C⟩, B, D⟩
    isplitl [A B]; · isplitl [A] <;> iassumption
    isplitl [C] <;> iassumption

/-! ## The steps -/

abbrev stM : Memref sig .tc .vmem S1024x512 .bf16 := Memref.whole cc0_scratch2
abbrev outM : Memref sig .tc .vmem S1024x512 .f32 := Memref.whole cc0_stg5_0

/-- A slice of whole rows, -/
theorem slice_set {n : ℕ} {off : Fin 2 → ℕ} {o : ℕ} (hoff : off = ![o, 0]) (inb : ∀ a, off a + (![n, 512] : Fin 2 → ℕ) a ≤ S1024x512.size a) (hr) :
    (stM.slice (Rect.unit (s := S1024x512) off ![n, 512] inb) hr).view.set = rws o n :=
  (View.set_slice_whole _ _).trans (set_rows off o hoff inb)

/-- and the units of a transfer of them. -/
theorem slice_credit {n : ℕ} (h : n = 48 ∨ n = 32) {off : Fin 2 → ℕ} (inb : ∀ a, off a + (![n, 512] : Fin 2 → ℕ) a ≤ S1024x512.size a) (hr) :
    (stM.slice (Rect.unit (s := S1024x512) off ![n, 512] inb) hr).view.dmaCredit = n * 32 := by
  rcases h with rfl | rfl
  · show sig.dmaCredit .tc (Kind.tc.table .vmem) cc0_scratch2.idx ⟨2, ![48, 512]⟩ .bf16 = _; decide
  · show sig.dmaCredit .tc (Kind.tc.table .vmem) cc0_scratch2.idx ⟨2, ![32, 512]⟩ .bf16 = _; decide

theorem pLen_cases : ∀ p < 24, pLen p = 48 ∨ pLen p = 32 := by decide

theorem amt_send {i : ℕ} (hi : i < 21) : amtK (15 + agI i) = pLen (agP i) * 32 := by
  have hb := agI_lt i hi
  unfold amtK
  rw [if_neg (by omega), if_neg (by omega), if_pos (by omega), Nat.add_sub_cancel_left, agX_agI i hi]
theorem amt_recv {i : ℕ} (hi : i < 21) : amtK (36 + agI i) = pLen (agP i) * 32 := by
  have hb := agI_lt i hi
  unfold amtK
  rw [if_neg (by omega), if_neg (by omega), if_neg (by omega), Nat.add_sub_cancel_left, ← pLen_send i hi]
theorem amt_got {r : ℕ} (hr : r < 21) : amtK (36 + rvI r) = pLen (3 + r) * 32 := by
  have hb := rvI_lt r hr
  unfold amtK
  rw [if_neg (by omega), if_neg (by omega), if_neg (by omega), Nat.add_sub_cancel_left, ivR_rvI r hr]
theorem pay_send (c : Dev nD) {i : ℕ} (hi : i < 21) : payK m c (15 + agI i) 0 = Piece m c (agP i) (qt (agT i)) := by
  have hb := agI_lt i hi
  unfold payK
  rw [if_neg (by omega), if_neg (by omega), if_neg (by omega), if_pos (by omega), Nat.add_sub_cancel_left, agX_agI i hi]
theorem pay_recv (c : Dev nD) {i : ℕ} (hi : i < 21) : payK m c (36 + agI i) 0 = Piece m c (3 + ivR (agI i)) fullShare := by
  have hb := agI_lt i hi
  unfold payK
  rw [if_neg (by omega), if_neg (by omega), if_neg (by omega), if_neg (by omega), Nat.add_sub_cancel_left]
theorem pay_got (c : Dev nD) {r : ℕ} (hr : r < 21) : payK m c (36 + rvI r) 0 = Piece m c (3 + r) fullShare := by
  have hb := rvI_lt r hr
  unfold payK
  rw [if_neg (by omega), if_neg (by omega), if_neg (by omega), if_neg (by omega), Nat.add_sub_cancel_left, ivR_rvI r hr]

/-- A transfer of a piece starts. -/
theorem ag_send (c : Dev nD) {nr nw nc : ℕ} (i : ℕ) (hi : i < 21) (hp : agP i < 3 + nr) (hw : nw ≤ i) {n : ℕ} (hn : n = pLen (agP i))
    {off : Fin 2 → ℕ} (hoff : off = ![pRow c (agP i), 0]) {inb inb' : ∀ a, off a + (![n, 512] : Fin 2 → ℕ) a ≤ S1024x512.size a}
    {d : Dev nD} (hd : d = xr c (agM i)) {sS sR : SemLoc sig} (hS : sS = smk (15 + agI i)) (hR : sR = smk (36 + agI i)) {hr hr'}
    {hsc} {hsrc} {hdst} {hsem : DmaTarget.Typed (nD := nD) (τ := τ) .vmem sR (.remote (p := .tc) (Dev.tc d : Thread nD τ) (stM.slice (Rect.unit (s := S1024x512) off ![n, 512] inb') hr') sS hsc)}
    {α : Type} {kk : PUnit → CoreProg F α} {Q : α → sProp 𝕄} :
    G m K c i nr nw nc
      ⊢ iprop((G m K c (i + 1) nr nw nc -∗ Runs c (kk ⟨⟩) Q)
          -∗ Runs c (.op (.enqueueDma (stM.slice (Rect.unit (s := S1024x512) off ![n, 512] inb) hr)
              (.remote (Dev.tc d : Thread nD τ) (stM.slice (Rect.unit (s := S1024x512) off ![n, 512] inb') hr') sS hsc) sR hsrc hdst hsem) kk) Q) := by
  unfold G
  rw [bigSep_Ico_succ_bot hi, Outs_send m c hi hw hp]
  unfold agTodo Hole
  iintro ⟨#HC, HO, ⟨⟨Ht1, Ht2, Hat, ⟨%fd, Hd⟩⟩, HT⟩, HP, HD, HW, HG, HRd, ⟨Hs, HOut⟩, HI⟩ Hk
  subst hn
  have hb : agI i < 21 := agI_lt i hi
  have hset := slice_set hoff inb hr
  have hset' := slice_set hoff inb' hr'
  have hlen : pLen (agP i) = 48 ∨ pLen (agP i) = 32 := pLen_cases _ ((by decide : ∀ i < 21, agP i < 24) i hi)
  have hpay : ∀ fd : Buf (Elt F) (stL (xr c (agM i))), (stL (xr c (agM i)) ↦[rws (pRow c (agP i)) (pLen (agP i))]{fullShare}
      ((stM.slice (Rect.unit (s := S1024x512) off ![pLen (agP i), 512] inb') hr').view.write (Elt F) fd
        ((stM.slice (Rect.unit (s := S1024x512) off ![pLen (agP i), 512] inb) hr).view.read (Elt F) (SG m)) Finset.univ)) ⊢ payK m (xr c (agM i)) (36 + agI i) 0 := by
    intro fd
    rw [pay_recv m _ hi]
    unfold Piece
    rw [← pRow_send c i hi, ← pLen_send i hi, ← hset']
    exact Entails.of_eq (pointsTo_congr fun j hj => write_read_same (stM.slice (Rect.unit (s := S1024x512) off ![pLen (agP i), 512] inb') hr').view fd (SG m) j hj)
  iapply (cell_send m K c (k₁ := 15 + agI i) (k₂ := 36 + agI i) (j := agM i) (n := 14 + i) (by omega) (by omega) (by omega) (by omega) (by omega)
    (by unfold obM; rw [if_neg (by omega), if_neg (by omega), Nat.add_sub_cancel_left]) (by unfold obK; rw [if_neg (by omega), if_neg (by omega), Nat.add_sub_cancel_left])
    ((amt_send hi).trans (amt_recv hi).symm) hd hS hR ((slice_credit hlen inb' hr').trans (amt_recv hi).symm) (q := qt (agT i)) (fs := (SG m : Buf (Elt F) (stL c))) (fd := fd)
    (by rw [pay_send m c hi, hset]; exact BI.Entails.refl _) (by rw [hset']; exact hpay fd)) $$ [HO Ht1 Ht2 Hs Hd]
  · isplitr; · iexact HC
    isplitl [HO]; · iexact HO
    isplitl [Ht1]; · iexact Ht1
    isplitl [Ht2]; · iexact Ht2
    rw [hset]
    isplitl [Hs]; · unfold Piece; iexact Hs
    iexact Hd
  iintro ⟨HO, Hc⟩
  iapply Hk
  isplitr; · iexact HC
  isplitl [HO]; · iexact HO
  isplitl [HT]; · iexact HT
  isplitl [HP Hat Hc]
  · rw [bigSep_Ico_succ_top hw]
    isplitl [Hat Hc]
    · unfold agPend
      isplitl [Hat] <;> iassumption
    iexact HP
  isplitl [HD]; · iexact HD
  isplitl [HW]; · iexact HW
  isplitl [HG]; · iexact HG
  isplitl [HRd]; · iexact HRd
  isplitl [HOut]; · iexact HOut
  iexact HI

/-- The wait for piece `3 + r`. -/
theorem ag_recv (c : Dev nD) {ns nw nc : ℕ} (r : ℕ) (hr : r < 21) (hlv : ∀ i < 35, 14 + ns ≤ i → lvK (36 + rvI r) < lvK (obK i)) (hs : ∀ i < ns, agP i ≠ 3 + r)
    {sem : DmaSem sig} (hS : SemLoc.dma sem = smk (36 + rvI r)) {n : ℕ} (hn : n = pLen (3 + r)) {off : Fin 2 → ℕ}
    {inb inb' : ∀ a, off a + (![n, 512] : Fin 2 → ℕ) a ≤ S1024x512.size a} {hr hr'} {hsrc} {hdst} {α : Type} {kk : PUnit → CoreProg F α} {Q : α → sProp 𝕄} :
    G m K c ns r nw nc
      ⊢ iprop((G m K c ns (r + 1) nw nc -∗ Runs c (kk ⟨⟩) Q)
          -∗ Runs c (.op (.waitDma2 sem (stM.slice (Rect.unit (s := S1024x512) off ![n, 512] inb') hr') (stM.slice (Rect.unit (s := S1024x512) off ![n, 512] inb) hr) hsrc hdst) kk) Q) := by
  unfold G
  rw [bigSep_Ico_succ_bot ‹r < 21›]
  unfold agWait
  iintro ⟨#HC, HO, HT, HP, HD, ⟨⟨Hat, Hc⟩, HW⟩, HG, HRd, HOut, HI⟩ Hk
  subst hn
  have hb := rvI_lt r ‹r < 21›
  have hlen := pLen_cases (3 + r) (by omega)
  iapply (cell_wait m K c (k := 36 + rvI r) (n := 14 + ns) (by omega) (by omega) hlv hS ((slice_credit hlen inb hr).trans (amt_got ‹r < 21›).symm)) $$ [HO Hat Hc]
  · isplitr; · iexact HC
    isplitl [HO]; · iexact HO
    isplitl [Hat] <;> iassumption
  iintro ⟨HO, Hp, Hz⟩
  ihave Hp := (Entails.of_eq (pay_got m c ‹r < 21›)) $$ Hp
  ihave HH := (Entails.of_eq (Outs_recv m c (nw := nw) (ns := ns) (n := 3 + r) hs).symm) $$ [Hp HRd HOut]
  · isplitl [Hp]; · iexact Hp
    isplitl [HRd] <;> iassumption
  icases HH with ⟨HRd, HOut⟩
  iapply Hk
  isplitr; · iexact HC
  isplitl [HO]; · iexact HO
  isplitl [HT]; · iexact HT
  isplitl [HP]; · iexact HP
  isplitl [HD]; · iexact HD
  isplitl [HW]; · iexact HW
  isplitl [HG Hz]
  · rw [bigSep_range_succ]
    isplitl [Hz]; · unfold agGot; iexact Hz
    iexact HG
  isplitl [HRd]; · iexact HRd
  isplitl [HOut]; · iexact HOut
  iexact HI

/-- The wait for transfer `i` to have left: its share of the piece is back. -/
theorem ag_wait (c : Dev nD) {nc : ℕ} (i : ℕ) (hi : i < 21)
    {sem : DmaSem sig} (hS : SemLoc.dma sem = smk (15 + agI i)) {n : ℕ} (hn : n = pLen (agP i)) {off : Fin 2 → ℕ}
    {inb inb' : ∀ a, off a + (![n, 512] : Fin 2 → ℕ) a ≤ S1024x512.size a} {hr hr'} {hsrc} {hdst} {α : Type} {kk : PUnit → CoreProg F α} {Q : α → sProp 𝕄} :
    G m K c 21 21 i nc
      ⊢ iprop((G m K c 21 21 (i + 1) nc -∗ Runs c (kk ⟨⟩) Q)
          -∗ Runs c (.op (.waitDma2 sem (stM.slice (Rect.unit (s := S1024x512) off ![n, 512] inb') hr') (stM.slice (Rect.unit (s := S1024x512) off ![n, 512] inb) hr) hsrc hdst) kk) Q) := by
  have hp : agP i < 24 := (by decide : ∀ i < 21, agP i < 24) i hi
  unfold G
  rw [bigSep_Ico_succ_bot hi, Outs_back m c hi (le_refl 21) hp]
  unfold agPend
  iintro ⟨#HC, HO, HT, ⟨⟨Hat, Hc⟩, HP⟩, HD, HW, HG, HRd, HOut, HI⟩ Hk
  subst hn
  have hb := agI_lt i hi
  iapply (cell_wait m K c (k := 15 + agI i) (n := 35) (by omega) (by omega) (fun i h1 h2 => absurd h1 (by omega)) hS ((slice_credit (pLen_cases _ hp) inb hr).trans (amt_send hi).symm)) $$ [HO Hat Hc]
  · isplitr; · iexact HC
    isplitl [HO]; · iexact HO
    isplitl [Hat] <;> iassumption
  iintro ⟨HO, Hp, Hz⟩
  ihave Hp := (Entails.of_eq (pay_send m c hi)) $$ Hp
  iapply Hk
  isplitr; · iexact HC
  isplitl [HO]; · iexact HO
  isplitl [HT]; · iexact HT
  isplitl [HP]; · iexact HP
  isplitl [HD Hz]
  · rw [bigSep_range_succ]
    isplitl [Hz]; · unfold agDone; iexact Hz
    iexact HD
  isplitl [HW]; · iexact HW
  isplitl [HG]; · iexact HG
  isplitl [HRd]; · iexact HRd
  isplitl [Hp HOut]
  · isplitl [Hp] <;> iassumption
  iexact HI

/-! ## Widening a piece into the result -/

/-- The rows are read, -/
theorem cv_load (c : Dev nD) {ns nr nw nc : ℕ} (p : ℕ) (hp : p < 3 + nr) {n : ℕ} (hn : n = pLen p) {off : Fin 2 → ℕ} (hoff : off = ![pRow c p, 0])
    {inb : ∀ a, off a + (![n, 512] : Fin 2 → ℕ) a ≤ S1024x512.size a} {hl} {α : Type} {kk : _ → CoreProg F α} {Q : α → sProp 𝕄} :
    G m K c ns nr nw nc
      ⊢ iprop((G m K c ns nr nw nc -∗ Runs c (kk (rows n (SG m) (pRow c p))) Q)
          -∗ Runs c (.op (.load stM (Rect.unit (s := S1024x512) off ![n, 512] inb).toLoadRect hl) kk) Q) := by
  have hR : Reads m c (3 + nr) = iprop((stL c ↦[rws (pRow c p) (pLen p)]{qt 3} (SG m : Buf (Elt F) (stL c))) ∗ bigSep ((Finset.range (3 + nr)).erase p) fun p => Piece m c p (qt 3)) :=
    bigSep_erase (Finset.mem_range.mpr hp)
  unfold G
  rw [hR]
  iintro ⟨#HC, HO, HT, HP, HD, HW, HG, ⟨Hs, HRd⟩, HOut, HI⟩ Hk
  subst hn
  have hset := slice_set hoff inb (fun _ => rfl)
  iapply (wp_load_rect 𝒱₀ (c : Thread nD τ) none Set.univ (m := stM) (r := Rect.unit (s := S1024x512) off ![pLen p, 512] inb) (S := rws (pRow c p) (pLen p)) (by rw [← hset])) $$ Hs
  iintro Hs
  rw [show (stM.access (Rect.unit (s := S1024x512) off ![pLen p, 512] inb)).read (Elt F) (SG m) = rows (pLen p) (SG m) (pRow c p) from
    ld_rows (stM.view) (SG m) off (pRow c p) hoff inb]
  iapply Hk
  isplitr; · iexact HC
  isplitl [HO]; · iexact HO
  isplitl [HT]; · iexact HT
  isplitl [HP]; · iexact HP
  isplitl [HD]; · iexact HD
  isplitl [HW]; · iexact HW
  isplitl [HG]; · iexact HG
  isplitl [Hs HRd]
  · isplitl [Hs] <;> iassumption
  isplitl [HOut]; · iexact HOut
  iexact HI

/-- the result's rows are read (and not used), -/
theorem cv_dead (c : Dev nD) {ns nr nw nc : ℕ} {r : LoadRect S1024x512} {hl} {α : Type} {kk : _ → CoreProg F α} {Q : α → sProp 𝕄} :
    G m K c ns nr nw nc
      ⊢ iprop((∀ v, G m K c ns nr nw nc -∗ Runs c (kk v) Q) -∗ Runs c (.op (.load outM r hl) kk) Q) := by
  unfold G OutInv
  iintro ⟨#HC, HO, HT, HP, HD, HW, HG, HRd, HOut, ⟨%f, %hf, Hf⟩⟩ Hk
  iapply (wp_load 𝒱₀ (c : Thread nD τ) none Set.univ (m := outM) (Finset.subset_univ _)) $$ Hf
  iintro Hf
  iapply Hk
  isplitr; · iexact HC
  isplitl [HO]; · iexact HO
  isplitl [HT]; · iexact HT
  isplitl [HP]; · iexact HP
  isplitl [HD]; · iexact HD
  isplitl [HW]; · iexact HW
  isplitl [HG]; · iexact HG
  isplitl [HRd]; · iexact HRd
  isplitl [HOut]; · iexact HOut
  iexists f
  isplitr; · ipureintro; exact hf
  iexact Hf

/-- and written. -/
theorem cv_store (c : Dev nD) {ns nr nw : ℕ} (nc : ℕ) {n : ℕ} (hn : n = pLen (cvP nc)) {off : Fin 2 → ℕ} (hoff : off = ![pRow c (cvP nc), 0])
    {inb : ∀ a, off a + (![n, 512] : Fin 2 → ℕ) a ≤ S1024x512.size a} {w : (⟨2, ![n, 512]⟩ : Shape).Idx → Elt F .f32} (hw : w = extf .f32 (rows n (SG m) (pRow c (cvP nc))) bitsLt_bf16_f32)
    {hx hm} {α : Type} {kk : PUnit → CoreProg F α} {Q : α → sProp 𝕄} :
    G m K c ns nr nw nc
      ⊢ iprop((G m K c ns nr nw (nc + 1) -∗ Runs c (kk ⟨⟩) Q)
          -∗ Runs c (.op (.store outM (Rect.unit (s := S1024x512) off ![n, 512] inb) w Finset.univ hx hm) kk) Q) := by
  unfold G OutInv
  iintro ⟨#HC, HO, HT, HP, HD, HW, HG, HRd, HOut, ⟨%f, %hf, Hf⟩⟩ Hk
  subst hn
  iapply (wp_store 𝒱₀ (c : Thread nD τ) none Set.univ (m := outM) (r := Rect.unit (s := S1024x512) off ![pLen (cvP nc), 512] inb) (Mk := Finset.univ) (Finset.subset_univ _)) $$ Hf
  iintro Hf
  iapply Hk
  isplitr; · iexact HC
  isplitl [HO]; · iexact HO
  isplitl [HT]; · iexact HT
  isplitl [HP]; · iexact HP
  isplitl [HD]; · iexact HD
  isplitl [HW]; · iexact HW
  isplitl [HG]; · iexact HG
  isplitl [HRd]; · iexact HRd
  isplitl [HOut]; · iexact HOut
  iexists _
  isplitr; swap; · iexact Hf
  ipureintro
  intro j hj i hi
  have e := View.write_whole_slice_unit (Val := Elt F) cc0_stg5_0 off ![pLen (cvP nc), 512] inb f w
  have e' : ((outM.access (Rect.unit (s := S1024x512) off ![pLen (cvP nc), 512] inb)).write (Elt F) f w Finset.univ : S1024x512.Idx → Elt F .f32) i = _ :=
    (congrFun e i).trans (upd_rows f w off (pRow c (cvP nc)) hoff ⟨rfl, inb⟩ i)
  refine e'.trans ?_
  split
  · rename_i hi'
    rw [hw]
    have hj0 : (i 0).val < 1024 := (i 0).isLt
    have h1 := hi'.1
    have h2 : (pRow c (cvP nc) + ((i 0).val - pRow c (cvP nc))) % 1024 = (i 0).val := by rw [Nat.add_sub_cancel' h1, Nat.mod_eq_of_lt hj0]
    refine congrArg (fun j : S1024x512.Idx => FloatOps.extf .f32 bitsLt_bf16_f32 (SG m j)) (funext fun a => Fin.ext ?_)
    match a with
    | 0 => exact h2
    | 1 => rfl
  · rename_i hi'
    rcases Nat.lt_succ_iff_lt_or_eq.mp hj with h | h
    · exact hf j h i hi
    · subst h; exact absurd (mem_rws.mp hi) hi'

end Cert.KernelIdeal.Moe

end
-- ==== Proof.Scatter.lean ====
/-
# The barrier and the reduce-scatter, one operation at a time

What device `c` holds when `ns` of its seven transfers have been started and `nr` of the seven parts
for it have been received; the barrier before it; and the loads and stores of whole rows.
-/
module

public import proofs.«01_k».proof.Proof.Gather

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ)

/-! ## Loads and stores of a buffer held outright -/

/-- A load of `k` rows. -/
theorem row_load (c : Dev nD) {n k : ℕ} {e : EltTy} (M : Memref sig .tc .vmem ⟨2, ![1024, n]⟩ e) {f : Buf (Elt F) (M.view.loc (c : Thread nD τ))}
    {x : (⟨2, ![1024, n]⟩ : Shape).Idx → Elt F e} (hx : M.view.read (Elt F) f = x) {off : Fin 2 → ℕ} {o : ℕ} (hoff : off = ![o, 0])
    {inb : ∀ a, off a + (![k, n] : Fin 2 → ℕ) a ≤ (⟨2, ![1024, n]⟩ : Shape).size a} {hl} {α : Type} {kk : _ → CoreProg F α} {Q : α → sProp 𝕄} :
    (M.view.loc (c : Thread nD τ) ↦{fullShare} f)
      ⊢ iprop(((M.view.loc (c : Thread nD τ) ↦{fullShare} f) -∗ Runs c (kk (rows k x o)) Q)
          -∗ Runs c (.op (.load M (Rect.unit (s := ⟨2, ![1024, n]⟩) off ![k, n] inb).toLoadRect hl) kk) Q) := by
  have e := ld_rows (k := k) M.view f off o hoff inb
  rw [hx] at e
  rw [← e]
  exact wp_load 𝒱₀ (c : Thread nD τ) none Set.univ (m := M) (Finset.subset_univ _)

/-- A load of which it is known what it reads, -/
theorem any_load (c : Dev nD) {s : Shape} {e : EltTy} (M : Memref sig .tc .vmem s e) {f : Buf (Elt F) (M.view.loc (c : Thread nD τ))}
    {r : LoadRect s} {x} (hx : M.view.readAt (Elt F) r f = x) {hl} {α : Type} {kk : _ → CoreProg F α} {Q : α → sProp 𝕄} :
    (M.view.loc (c : Thread nD τ) ↦{fullShare} f)
      ⊢ iprop(((M.view.loc (c : Thread nD τ) ↦{fullShare} f) -∗ Runs c (kk x) Q) -∗ Runs c (.op (.load M r hl) kk) Q) := by
  subst hx
  exact wp_load 𝒱₀ (c : Thread nD τ) none Set.univ (m := M) (Finset.subset_univ _)

/-- and a store of which it is known what it leaves. -/
theorem any_store (c : Dev nD) {s : Shape} {e : EltTy} (M : Memref sig .tc .vmem s e) {f g : Buf (Elt F) (M.view.loc (c : Thread nD τ))}
    {r : Rect s} {w : r.shape.Idx → Elt F e} (hg : (M.access r).write (Elt F) f w Finset.univ = g) {hx hm} {α : Type} {kk : PUnit → CoreProg F α} {Q : α → sProp 𝕄} :
    (M.view.loc (c : Thread nD τ) ↦{fullShare} f)
      ⊢ iprop(((M.view.loc (c : Thread nD τ) ↦{fullShare} g) -∗ Runs c (kk ⟨⟩) Q) -∗ Runs c (.op (.store M r w Finset.univ hx hm) kk) Q) := by
  subst hg
  exact wp_store 𝒱₀ (c : Thread nD τ) none Set.univ (m := M) (r := r) (Mk := Finset.univ) (Finset.subset_univ _)

/-! ## The barrier -/

/-- What device `c` needs for the signals to the partners from `n + 1` on. -/
def BarTodo (c : Dev nD) (n : ℕ) : sProp 𝕄 :=
  bigSep (Finset.Ico (n + 1) 8) fun j => iprop(dutyTok ER (kcell (xr c j) 0) 0 j ∗ barPay (F := F) (xr c j) j)

/-- The state of the signals. -/
def Sg (c : Dev nD) (n : ℕ) : sProp 𝕄 := iprop(Ctx m K ∗ Ow c n ∗ BarTodo c n)

/-- A signal. -/
theorem bar_signal (c : Dev nD) (n : ℕ) (hn : n < 7) {d : Dev nD} (hd : d = xr c (n + 1)) {k : ℕ} (hk : k = 1)
    {α : Type} {kk : PUnit → CoreProg F α} {Q : α → sProp 𝕄} :
    Sg m K c n
      ⊢ iprop((Sg m K c (n + 1) -∗ Runs c (kk ⟨⟩) Q) -∗ Runs c (.op (.semSignal (d : Thread nD τ) barS k) kk) Q) := by
  subst hd hk
  unfold Sg Ctx Ow BarTodo
  rw [bigSep_Ico_succ_bot (by omega : n + 1 < 8)]
  iintro ⟨⟨#HR, #HL⟩, ⟨%W, HO⟩, ⟨Ht, Hp⟩, HT⟩ Hk
  ihave #HI := (rec_inv m K (xr c (n + 1)) (by decide : 0 < 57)) $$ HR
  ihave #Hr := (rec_reached m K (xr c (n + 1)) (by decide : 0 < 57)) $$ HR
  have hmem : n + 1 ∈ (sched (F := F) m).duties (kcell (xr c (n + 1)) 0) 0 := by
    rw [duties_k m _ (by decide)]; unfold dutK; rw [if_pos rfl, Finset.mem_Ico]; omega
  have hpay : (sched (F := F) m).payload ((xr c (n + 1) : Thread nD τ), SemLoc.reg barS) 0 (n + 1) = barPay (xr c (n + 1)) (n + 1) :=
    (payload_k m (xr c (n + 1)) (k := 0) (by decide) (n + 1)).trans (if_pos rfl)
  iapply (Rounds.wp_signal 𝒱₀ ER (sched m) (c : Thread nD τ) none (dst := (xr c (n + 1) : Thread nD τ)) (κ := K (xr c (n + 1), ⟨0, by decide⟩)) (r := 0) (d := n + 1)
    hmem ((amount_k m (xr c (n + 1)) (k := 0) (by decide) (n + 1)).trans rfl) () (Osum c (n + 1))
    ((Osum_succ c (by omega : n < 35)).trans (by unfold obM obK; rw [if_pos hn, if_pos hn]; rfl)) (W := W)) $$ [HO Ht Hp]
  · isplitr; · iexact HI
    isplitl [HO]; · iexact HO
    isplitl [Ht]; · iexact Ht
    isplitl [Hp]; · iapply (Entails.of_eq hpay.symm) $$ Hp
    iexact Hr
  iintro HO
  iapply Hk
  isplitr
  · isplitr; · iexact HR
    iexact HL
  isplitl [HO]; · iexists _; iexact HO
  iexact HT

/-- The wait for the seven signals: what the partners hand over. -/
theorem bar_wait (c : Dev nD) {k : ℕ} (hk : k = 7) {α : Type} {kk : PUnit → CoreProg F α} {Q : α → sProp 𝕄} :
    iprop(Ctx m K ∗ Ow c 7 ∗ atPos ER (kcell c 0) 0 ∅ 0 ∗ cred (tallyAt (kcell c 0) () 7))
      ⊢ iprop(((Ow c 7 ∗ semVal (kcell c 0) 0 ∗ bigSep (Finset.Ico 1 8) (barPay (F := F) c)) -∗ Runs c (kk ⟨⟩) Q)
          -∗ Runs c (.op (.semWait barS k) kk) Q) := by
  subst hk
  unfold Ctx Ow
  iintro ⟨⟨#HR, #HL⟩, ⟨%W, HO⟩, Hat, Hc⟩ Hk
  ihave #HI := (rec_inv m K c (by decide : 0 < 57)) $$ HR
  iapply (Rounds.wp_wait_rest_token 𝒱₀ ER (sched m) (c : Thread nD τ) none (κ := K (c, ⟨0, by decide⟩)) (sm := smk 0) (k' := 7)
      (wpE_semWait_eq 𝒱₀ (c : Thread nD τ) none Set.univ) (Set.mem_univ _) () (O := Osum c 7) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (smk 0) 7 (by decide)); iexact HL
    iexact Hat
  iintro ⟨HO, Hat, -, Hpay⟩
  ihave Hp := (Entails.of_eq (rest_bar m c)) $$ Hpay
  imod (Rounds.cell_close ER (sched m) (Set.mem_univ (K (c, ⟨0, by decide⟩))) (fun h => h) (R := 0 + 1) (duties_later m (kcell c 0))) $$ [Hat] with Hz
  · isplitr; · iexact HI
    iexact Hat
  iapply Hk
  isplitl [HO]; · iexists _; iexact HO
  isplitl [Hz] <;> iassumption

/-! ## The reduce-scatter's state -/

/-- For a transfer still to be started: the tokens of its two cells, its send cell's position, its landing place. -/
def rsTodo (c : Dev nD) (i : ℕ) : sProp 𝕄 :=
  iprop(dutyTok ER (kcell c (rsJ i)) 0 0 ∗ dutyTok ER (kcell (xr c (rsJ i)) (7 + rsJ i)) 0 0
    ∗ atPos ER (kcell c (rsJ i)) 0 ∅ 0 ∗ rbHole (F := F) (xr c (rsJ i)) (rsJ i - 1))
/-- For one started and not waited for. -/
def rsPend (c : Dev nD) (i : ℕ) : sProp 𝕄 := iprop(atPos ER (kcell c (rsJ i)) 0 ∅ 0 ∗ cred (tallyAt (kcell c (rsJ i)) () (amtK (rsJ i))))
/-- For one waited for: its chunk is back. -/
def rsDone (c : Dev nD) (i : ℕ) : sProp 𝕄 := iprop(semVal (kcell c (rsJ i)) 0 ∗ accP m c (rsJ i))
/-- For a part still to be received, -/
def rsWait (c : Dev nD) (i : ℕ) : sProp 𝕄 := iprop(atPos ER (kcell c (7 + rsJ i)) 0 ∅ 0 ∗ cred (tallyAt (kcell c (7 + rsJ i)) () (amtK (7 + rsJ i))))
/-- and for one received. -/
def rsGot (c : Dev nD) (i : ℕ) : sProp 𝕄 := iprop(semVal (kcell c (7 + rsJ i)) 0 ∗ rbP m c (rsJ i - 1))

/-- The whole state. -/
def R (c : Dev nD) (ns nr : ℕ) : sProp 𝕄 :=
  iprop(Ctx m K ∗ Ow c (7 + ns) ∗ bigSep (Finset.Ico ns 7) (rsTodo c) ∗ bigSep (Finset.Ico 0 ns) (rsPend c)
    ∗ bigSep (Finset.Ico nr 7) (rsWait c) ∗ bigSep (Finset.range nr) (rsGot m c))

abbrev accM : Memref sig .tc .vmem S1024x512 .bf16 := Memref.whole cc0_scratch1
abbrev rbM : Memref sig .tc .vmem S7x128x512 .bf16 := Memref.whole cc0_scratch4

theorem amt_rs {k : ℕ} (h0 : 0 < k) (h : k < 15) : amtK k = 4096 := by unfold amtK; rw [if_neg (by omega), if_pos h]

/-- The part of the receive buffer for partner `j + 1`, as a transfer names it. -/
abbrev rbS (off : Fin 3 → ℕ) (inb : ∀ a, off a + S1x128x512.size a ≤ S7x128x512.size a)
    (hr : ∀ a, (Rect.unit (s := S7x128x512) off S1x128x512.size inb).stride a = 1) : Memref sig .tc .vmem S128x512 .bf16 :=
  (rbM.slice (Rect.unit (s := S7x128x512) off S1x128x512.size inb) hr).squeeze S128x512 squeezes_S1x128x512_S128x512

theorem slot_set (off : Fin 3 → ℕ) (j : ℕ) (hoff : off = ![j, 0, 0]) (inb : ∀ a, off a + S1x128x512.size a ≤ S7x128x512.size a) :
    (Rect.unit (s := S7x128x512) off S1x128x512.size inb).set = slt j := by
  subst hoff
  ext i
  rw [Rect.mem_set_unit]
  unfold slt
  rw [Finset.mem_filter]
  constructor
  · intro h; refine ⟨Finset.mem_univ _, ?_⟩
    have h0 : j ≤ (i 0).val ∧ (i 0).val < j + 1 := h 0
    omega
  · rintro ⟨-, h⟩ a
    match a with
    | 0 => exact ⟨by show j ≤ (i 0).val; omega, by show (i 0).val < j + 1; omega⟩
    | 1 => exact ⟨Nat.zero_le _, by have : (i 1).val < 128 := (i 1).isLt; show (i 1).val < 0 + 128; omega⟩
    | 2 => exact ⟨Nat.zero_le _, by have : (i 2).val < 512 := (i 2).isLt; show (i 2).val < 0 + 512; omega⟩

theorem rbS_set {off : Fin 3 → ℕ} {j : ℕ} (hoff : off = ![j, 0, 0]) (inb) (hr) : (rbS off inb hr).view.set = slt j :=
  (Memref.set_view_squeeze _ _).trans ((View.set_slice_whole _ _).trans (slot_set off j hoff inb))
theorem rbS_credit (off : Fin 3 → ℕ) (inb) (hr) : (rbS off inb hr).view.dmaCredit = 4096 := by
  show sig.dmaCredit .tc (Kind.tc.table .vmem) cc0_scratch4.idx S128x512 .bf16 = _; decide
theorem accS_set {off : Fin 2 → ℕ} {o : ℕ} (hoff : off = ![o, 0]) (inb : ∀ a, off a + S128x512.size a ≤ S1024x512.size a) (hr) :
    (accM.slice (Rect.unit (s := S1024x512) off S128x512.size inb) hr).view.set = rws o 128 :=
  (View.set_slice_whole _ _).trans (set_rows off o hoff inb)
theorem accS_credit {off : Fin 2 → ℕ} (inb : ∀ a, off a + S128x512.size a ≤ S1024x512.size a) (hr) :
    (accM.slice (Rect.unit (s := S1024x512) off S128x512.size inb) hr).view.dmaCredit = 4096 := by
  show sig.dmaCredit .tc (Kind.tc.table .vmem) cc0_scratch1.idx S128x512 .bf16 = _; decide

/-- What a load of partner `j + 1`'s part reads. -/
theorem rb_read (c : Dev nD) (j : Fin 7) (off : Fin 3 → ℕ) (hoff : off = ![j.val, 0, 0]) (inb : ∀ a, off a + S1x128x512.size a ≤ S7x128x512.size a) :
    rbM.view.readAt (Elt F) (Rect.unit (s := S7x128x512) off S1x128x512.size inb).toLoadRect (RB m c) = RBs m c j := by
  subst hoff
  funext i
  refine congrArg (RB m c) (funext fun a => Fin.ext ?_)
  have h0 : (i 0).val = 0 := by have : (i 0).val < 1 := (i 0).isLt; omega
  match a with
  | 0 => show j.val + 1 * (i 0).val = j.val; omega
  | 1 => show 0 + 1 * (i 1).val = (i 1).val; omega
  | 2 => show 0 + 1 * (i 2).val = (i 2).val; omega

/-- What is sent to partner `j` is what it is to hold. -/
theorem rs_same (c : Dev nD) {j : ℕ} (hj : 1 ≤ j) (hj' : j < 8) {off : Fin 2 → ℕ} (hoff : off = ![cRow c j, 0]) {inb : ∀ a, off a + S128x512.size a ≤ S1024x512.size a} {hr}
    {off' : Fin 3 → ℕ} (hoff' : off' = ![j - 1, 0, 0])
    {inb' : ∀ a, off' a + S1x128x512.size a ≤ S7x128x512.size a} {hr' : ∀ a, (Rect.unit (s := S7x128x512) off' S1x128x512.size inb').stride a = 1} :
    (accM.slice (Rect.unit (s := S1024x512) off S128x512.size inb) hr).view.read (Elt F) (AB m c) = (rbS off' inb' hr').view.read (Elt F) (RB m (xr c j)) := by
  have e1 : (accM.slice (Rect.unit (s := S1024x512) off S128x512.size inb) hr).view.read (Elt F) (AB m c) = rows 128 (AB m c) (cRow c j) :=
    ld_rows accM.view (AB m c) off (cRow c j) hoff inb
  have e2 : (rbS off' inb' hr').view.read (Elt F) (RB m (xr c j)) = shapeCast S128x512 (RBs m (xr c j) ⟨j - 1, by omega⟩) (by decide) := by
    rw [← rb_read m (xr c j) ⟨j - 1, by omega⟩ off' hoff' inb']; rfl
  rw [e1, e2]
  funext i
  refine Eq.trans ?_ (shapeCast_dropUnit_apply ![128, 512] (RBs m (xr c j) ⟨j - 1, by omega⟩) _ i).symm
  have hx : xr (xr c j) (j - 1 + 1) = c := by rw [Nat.sub_add_cancel hj]; exact xr_xr c j hj'
  show AB m c _ = AB m (xr (xr c j) (j - 1 + 1)) _
  rw [hx]
  rfl

/-- A transfer of a chunk starts. -/
theorem rs_send (c : Dev nD) {nr : ℕ} (i : ℕ) (hi : i < 7) {off : Fin 2 → ℕ} (hoff : off = ![cRow c (rsJ i), 0]) {inb : ∀ a, off a + S128x512.size a ≤ S1024x512.size a} {hr}
    {off' : Fin 3 → ℕ} (hoff' : off' = ![rsJ i - 1, 0, 0]) {inb' : ∀ a, off' a + S1x128x512.size a ≤ S7x128x512.size a} {hr'}
    {d : Dev nD} (hd : d = xr c (rsJ i)) {sS sR : SemLoc sig} (hS : sS = smk (rsJ i)) (hR : sR = smk (7 + rsJ i))
    {hsc} {hsrc} {hdst} {hsem : DmaTarget.Typed (nD := nD) (τ := τ) .vmem sR (.remote (p := .tc) (Dev.tc d : Thread nD τ) (rbS off' inb' hr') sS hsc)}
    {α : Type} {kk : PUnit → CoreProg F α} {Q : α → sProp 𝕄} :
    iprop(R m K c i nr ∗ accP m c (rsJ i))
      ⊢ iprop((R m K c (i + 1) nr -∗ Runs c (kk ⟨⟩) Q)
          -∗ Runs c (.op (.enqueueDma (accM.slice (Rect.unit (s := S1024x512) off S128x512.size inb) hr)
              (.remote (Dev.tc d : Thread nD τ) (rbS off' inb' hr') sS hsc) sR hsrc hdst hsem) kk) Q) := by
  obtain ⟨hj, hj'⟩ := rsJ_bd i hi
  unfold R
  rw [bigSep_Ico_succ_bot hi]
  unfold rsTodo rbHole accP
  iintro ⟨⟨#HC, HO, ⟨⟨Ht1, Ht2, Hat, ⟨%fd, Hd⟩⟩, HT⟩, HP, HW, HG⟩, Hs⟩ Hk
  have hset := accS_set hoff inb hr
  have hset' := rbS_set hoff' inb' hr'
  have hp1 : payK m c (rsJ i) 0 = accP m c (rsJ i) := by unfold payK; rw [if_neg (by omega), if_pos hj']
  have hp2 : payK m (xr c (rsJ i)) (7 + rsJ i) 0 = rbP m (xr c (rsJ i)) (rsJ i - 1) := by
    unfold payK; rw [if_neg (by omega), if_neg (by omega), if_pos (by omega), show 7 + rsJ i - 8 = rsJ i - 1 by omega]
  iapply (cell_send m K c (k₁ := rsJ i) (k₂ := 7 + rsJ i) (j := rsJ i) (n := 7 + i) (by omega) (by omega) (by omega) (by omega) (by omega)
    (by unfold obM; rw [if_neg (by omega), if_pos (by omega), Nat.add_sub_cancel_left]) (by unfold obK; rw [if_neg (by omega), if_pos (by omega), Nat.add_sub_cancel_left])
    ((amt_rs (by omega) (by omega)).trans (amt_rs (by omega) (by omega)).symm) hd hS hR ((rbS_credit off' inb' hr').trans (amt_rs (by omega) (by omega)).symm)
    (q := fullShare) (fs := (AB m c : Buf (Elt F) (accL c))) (fd := fd)
    (by rw [hp1, hset]; exact BI.Entails.refl _)
    (by
      rw [hp2]
      unfold rbP
      rw [hset', rs_same m c hj hj' hoff (hoff' := hoff') (inb' := inb') (hr' := hr'), ← hset']
      exact Entails.of_eq (pointsTo_congr fun x hx => write_read_same (rbS off' inb' hr').view fd (RB m (xr c (rsJ i))) x hx))) $$ [HO Ht1 Ht2 Hs Hd]
  · isplitr; · iexact HC
    isplitl [HO]; · iexact HO
    isplitl [Ht1]; · iexact Ht1
    isplitl [Ht2]; · iexact Ht2
    rw [hset, hset']
    isplitl [Hs]; · iexact Hs
    iexact Hd
  iintro ⟨HO, Hc⟩
  iapply Hk
  isplitr; · iexact HC
  isplitl [HO]; · iexact HO
  isplitl [HT]; · iexact HT
  isplitl [HP Hat Hc]
  · rw [bigSep_Ico_succ_top (Nat.zero_le i)]
    isplitl [Hat Hc]
    · unfold rsPend
      isplitl [Hat] <;> iassumption
    iexact HP
  isplitl [HW]; · iexact HW
  iexact HG

/-- The wait for the part of partner `rsJ r`. -/
theorem rs_recv (c : Dev nD) (r : ℕ) (hr : r < 7)
    {sem : DmaSem sig} (hS : SemLoc.dma sem = smk (7 + rsJ r)) {off : Fin 3 → ℕ} {inb : ∀ a, off a + S1x128x512.size a ≤ S7x128x512.size a} {hr}
    {sp : Space} {s : Shape} {e : EltTy} {src : Memref sig .tc sp s e} {hsrc} {hdst} {α : Type} {kk : PUnit → CoreProg F α} {Q : α → sProp 𝕄} :
    R m K c 7 r
      ⊢ iprop((R m K c 7 (r + 1) -∗ Runs c (kk ⟨⟩) Q)
          -∗ Runs c (.op (.waitDma2 sem src (rbS off inb hr) hsrc hdst) kk) Q) := by
  obtain ⟨hj, hj'⟩ := rsJ_bd r ‹r < 7›
  unfold R
  rw [bigSep_Ico_succ_bot ‹r < 7›]
  unfold rsWait
  iintro ⟨#HC, HO, HT, HP, ⟨⟨Hat, Hc⟩, HW⟩, HG⟩ Hk
  have hlv : ∀ i < 35, 7 + 7 ≤ i → lvK (7 + rsJ r) < lvK (obK i) := by
    have key : ∀ j < 8, 1 ≤ j → ∀ i < 35, 7 + 7 ≤ i → lvK (7 + j) < lvK (obK i) := by decide
    exact key (rsJ r) hj' hj
  have hp2 : payK m c (7 + rsJ r) 0 = rbP m c (rsJ r - 1) := by
    unfold payK; rw [if_neg (by omega), if_neg (by omega), if_pos (by omega), show 7 + rsJ r - 8 = rsJ r - 1 by omega]
  iapply (cell_wait m K c (k := 7 + rsJ r) (n := 7 + 7) (by omega) (by omega) hlv hS ((rbS_credit off inb hr).trans (amt_rs (by omega) (by omega)).symm)) $$ [HO Hat Hc]
  · isplitr; · iexact HC
    isplitl [HO]; · iexact HO
    isplitl [Hat] <;> iassumption
  iintro ⟨HO, Hp, Hz⟩
  ihave Hp := (Entails.of_eq hp2) $$ Hp
  iapply Hk
  isplitr; · iexact HC
  isplitl [HO]; · iexact HO
  isplitl [HT]; · iexact HT
  isplitl [HP]; · iexact HP
  isplitl [HW]; · iexact HW
  rw [bigSep_range_succ]
  isplitl [Hz Hp]
  · unfold rsGot
    isplitl [Hz] <;> iassumption
  iexact HG

/-- A received part is read. -/
theorem rb_load (c : Dev nD) {nr : ℕ} (i : ℕ) (hi : i < nr) (j : Fin 7) (hj : j.val = rsJ i - 1) {off : Fin 3 → ℕ} (hoff : off = ![j.val, 0, 0]) {inb : ∀ a, off a + S1x128x512.size a ≤ S7x128x512.size a} {hl}
    {α : Type} {kk : _ → CoreProg F α} {Q : α → sProp 𝕄} :
    R m K c 7 nr
      ⊢ iprop((R m K c 7 nr -∗ Runs c (kk (RBs m c j)) Q)
          -∗ Runs c (.op (.load rbM (Rect.unit (s := S7x128x512) off S1x128x512.size inb).toLoadRect hl) kk) Q) := by
  have hR : bigSep (Finset.range nr) (rsGot m c) = iprop((semVal (kcell c (7 + rsJ i)) 0 ∗ (rbL c ↦[slt j.val]{fullShare} (RB m c : Buf (Elt F) (rbL c)))) ∗ bigSep ((Finset.range nr).erase i) (rsGot m c)) := by
    rw [hj]; exact bigSep_erase (Finset.mem_range.mpr hi)
  unfold R
  rw [hR]
  iintro ⟨#HC, HO, HT, HP, HW, ⟨⟨Hz, Hs⟩, HG⟩⟩ Hk
  iapply (wp_load_rect 𝒱₀ (c : Thread nD τ) none Set.univ (m := rbM) (r := Rect.unit (s := S7x128x512) off S1x128x512.size inb) (S := slt j.val)
    (by rw [← slot_set off j.val hoff inb]; exact (View.set_slice_whole _ _).subset)) $$ Hs
  iintro Hs
  rw [show (rbM.access (Rect.unit (s := S7x128x512) off S1x128x512.size inb)).read (Elt F) (RB m c) = RBs m c j from rb_read m c j off hoff inb]
  iapply Hk
  isplitr; · iexact HC
  isplitl [HO]; · iexact HO
  isplitl [HT]; · iexact HT
  isplitl [HP]; · iexact HP
  isplitl [HW]; · iexact HW
  isplitl [Hz Hs]
  · isplitl [Hz] <;> iassumption
  iexact HG

/-! ## Rows that are written for the first time -/

/-- Rows are read (and what is read is not used), -/
theorem rows_dead (c : Dev nD) {n o : ℕ} {e : EltTy} (M : Memref sig .tc .vmem S1024x512 e) {S : Finset (M.view.loc (c : Thread nD τ)).ty.Idx} {r : Rect S1024x512} (hset : (M.access r).set = S) {hl}
    {α : Type} {kk : _ → CoreProg F α} {Q : α → sProp 𝕄} :
    iprop(∃ f : Buf (Elt F) (M.view.loc (c : Thread nD τ)), M.view.loc (c : Thread nD τ) ↦[S]{fullShare} f)
      ⊢ iprop((∀ v, (∃ f : Buf (Elt F) (M.view.loc (c : Thread nD τ)), M.view.loc (c : Thread nD τ) ↦[S]{fullShare} f) -∗ Runs c (kk v) Q)
          -∗ Runs c (.op (.load M r.toLoadRect hl) kk) Q) := by
  iintro ⟨%f, Hf⟩ Hk
  iapply (wp_load_rect 𝒱₀ (c : Thread nD τ) none Set.univ (m := M) (r := r) (S := S) (by rw [← hset])) $$ Hf
  iintro Hf
  iapply Hk
  iexists _; iexact Hf

/-- and written with those of `g`. -/
theorem rows_store (c : Dev nD) {e : EltTy} (M : Memref sig .tc .vmem S1024x512 e) {S : Finset (M.view.loc (c : Thread nD τ)).ty.Idx} {r : Rect S1024x512} (hset : (M.access r).set = S)
    (g : Buf (Elt F) (M.view.loc (c : Thread nD τ))) {w : r.shape.Idx → Elt F e} (hw : w = (M.access r).read (Elt F) g) {hx hm} {α : Type} {kk : PUnit → CoreProg F α} {Q : α → sProp 𝕄} :
    iprop(∃ f : Buf (Elt F) (M.view.loc (c : Thread nD τ)), M.view.loc (c : Thread nD τ) ↦[S]{fullShare} f)
      ⊢ iprop(((M.view.loc (c : Thread nD τ) ↦[S]{fullShare} g) -∗ Runs c (kk ⟨⟩) Q)
          -∗ Runs c (.op (.store M r w Finset.univ hx hm) kk) Q) := by
  iintro ⟨%f, Hf⟩ Hk
  iapply (wp_store 𝒱₀ (c : Thread nD τ) none Set.univ (m := M) (r := r) (Mk := Finset.univ) (S := S) (by rw [← hset]; exact (View.setOn_univ _).subset)) $$ Hf
  iintro Hf
  iapply Hk
  rw [hw, ← hset]
  iapply (Entails.of_eq (pointsTo_congr fun x hx => write_read_same (M.access r) f g x hx)) $$ Hf

/-- Rows of the products' buffer not yet written. -/
def accHole (c : Dev nD) (o n : ℕ) : sProp 𝕄 := iprop(∃ f : Buf (Elt F) (accL c), accL c ↦[rws o n]{fullShare} f)

theorem acc_dead (c : Dev nD) {n o : ℕ} {off : Fin 2 → ℕ} (hoff : off = ![o, 0]) {inb : ∀ a, off a + (![n, 512] : Fin 2 → ℕ) a ≤ S1024x512.size a} {hl}
    {α : Type} {kk : _ → CoreProg F α} {Q : α → sProp 𝕄} :
    accHole c o n
      ⊢ iprop((∀ v, accHole c o n -∗ Runs c (kk v) Q)
          -∗ Runs c (.op (.load accM (Rect.unit (s := S1024x512) off ![n, 512] inb).toLoadRect hl) kk) Q) :=
  rows_dead c (n := n) (o := o) accM ((View.set_slice_whole _ _).trans (set_rows off o hoff inb))

theorem acc_store (c : Dev nD) {n o : ℕ} {off : Fin 2 → ℕ} (hoff : off = ![o, 0]) {inb : ∀ a, off a + (![n, 512] : Fin 2 → ℕ) a ≤ S1024x512.size a}
    {w : (⟨2, ![n, 512]⟩ : Shape).Idx → Elt F .bf16} (g : S1024x512.Idx → Elt F .bf16) (hw : w = rows n g o) {hx hm} {α : Type} {kk : PUnit → CoreProg F α} {Q : α → sProp 𝕄} :
    accHole c o n
      ⊢ iprop(((accL c ↦[rws o n]{fullShare} (g : Buf (Elt F) (accL c))) -∗ Runs c (kk ⟨⟩) Q)
          -∗ Runs c (.op (.store accM (Rect.unit (s := S1024x512) off ![n, 512] inb) w Finset.univ hx hm) kk) Q) :=
  rows_store c accM ((View.set_slice_whole _ _).trans (set_rows off o hoff inb)) g (hw.trans (ld_rows accM.view g off o hoff inb).symm)

theorem st_dead (c : Dev nD) {n o : ℕ} {off : Fin 2 → ℕ} (hoff : off = ![o, 0]) {inb : ∀ a, off a + (![n, 512] : Fin 2 → ℕ) a ≤ S1024x512.size a} {hl}
    {α : Type} {kk : _ → CoreProg F α} {Q : α → sProp 𝕄} :
    Hole c o n
      ⊢ iprop((∀ v, Hole c o n -∗ Runs c (kk v) Q)
          -∗ Runs c (.op (.load stM (Rect.unit (s := S1024x512) off ![n, 512] inb).toLoadRect hl) kk) Q) :=
  rows_dead c (n := n) (o := o) stM ((View.set_slice_whole _ _).trans (set_rows off o hoff inb))

theorem st_store (c : Dev nD) {n o : ℕ} {off : Fin 2 → ℕ} (hoff : off = ![o, 0]) {inb : ∀ a, off a + (![n, 512] : Fin 2 → ℕ) a ≤ S1024x512.size a}
    {w : (⟨2, ![n, 512]⟩ : Shape).Idx → Elt F .bf16} (g : S1024x512.Idx → Elt F .bf16) (hw : w = rows n g o) {hx hm} {α : Type} {kk : PUnit → CoreProg F α} {Q : α → sProp 𝕄} :
    Hole c o n
      ⊢ iprop(((stL c ↦[rws o n]{fullShare} (g : Buf (Elt F) (stL c))) -∗ Runs c (kk ⟨⟩) Q)
          -∗ Runs c (.op (.store stM (Rect.unit (s := S1024x512) off ![n, 512] inb) w Finset.univ hx hm) kk) Q) :=
  rows_store c stM ((View.set_slice_whole _ _).trans (set_rows off o hoff inb)) g (hw.trans (ld_rows stM.view g off o hoff inb).symm)

/-! ## Which rows hold which products -/

/-- An index of 1024 by `n` from its two coordinates is itself. -/
theorem rows_ext {α : Type} {n k : ℕ} {x y : (⟨2, ![1024, n]⟩ : Shape).Idx → α} {o : ℕ} (h : ∀ i, o ≤ (i 0).val → (i 0).val < o + k → x i = y i) (ho : o + k ≤ 1024) :
    rows k x o = rows k y o := by
  funext j
  have hj : (j 0).val < k := (j 0).isLt
  unfold rows
  refine h _ ?_ ?_
  · show o ≤ (o + (j 0).val) % 1024; rw [Nat.mod_eq_of_lt (by omega)]; omega
  · show (o + (j 0).val) % 1024 < _; rw [Nat.mod_eq_of_lt (by omega)]; omega

/-- A block of an array made of blocks. -/
theorem rows_tiles {α : Type} {k : ℕ} (hk : 0 < k) (T : ℕ → (⟨2, ![k, 512]⟩ : Shape).Idx → α) (q : ℕ) (hq : q * k + k ≤ 1024) :
    rows k (tiles k hk T) (q * k) = T (q * k) := by
  funext j
  have hj : (j 0).val < k := (j 0).isLt
  have e : (q * k + (j 0).val) % 1024 = q * k + (j 0).val := Nat.mod_eq_of_lt (by omega)
  unfold rows
  rw [← tiles_at hk T q _ (by show q * k ≤ (q * k + (j 0).val) % 1024 ∧ (q * k + (j 0).val) % 1024 < _; rw [e]; omega)]
  refine congrArg (T (q * k)) (funext fun a => Fin.ext ?_)
  match a with
  | 0 => show (q * k + (j 0).val) % 1024 - q * k = (j 0).val; rw [e]; omega
  | 1 => rfl

theorem pair_ne (c : Dev nD) : ∀ j < 8, 2 ≤ j → vt (xr c j).val / 2 ≠ vt c.val / 2 := by revert c; decide
theorem pair_eq (c : Dev nD) : vt (xr c 1).val / 2 = vt c.val / 2 := by revert c; decide
theorem vt_lt (c d : Dev nD) : vt d.val < 8 := by revert d; decide
theorem vt_vt (d : Dev nD) : vt (vt d.val) % 8 = d.val := by revert d; decide

/-- The pair of chunks for partner `j ≥ 2` was computed by 256 rows, -/
theorem AB_pair (c : Dev nD) (j : ℕ) (hj : j < 8) (hj' : 2 ≤ j) : rows 256 (AB m c) (gRow c j) = T256 m c (gRow c j) := by
  have hlt := vt_lt c (xr c j)
  have hb : gRow c j + 256 ≤ 1024 := by unfold gRow; omega
  refine (rows_ext (y := tiles 256 (by decide) (T256 m c)) (fun i h1 h2 => ?_) hb).trans ?_
  · unfold AB
    rw [if_neg]
    unfold gRow at h1 h2
    rw [Nat.div_eq_of_lt_le h1 (by omega : (i 0).val < (vt (xr c j).val / 2).succ * 256)]
    exact pair_ne c j hj hj'
  · exact rows_tiles (by decide) (T256 m c) (vt (xr c j).val / 2) (by unfold gRow at hb; omega)

/-- the chunk for partner 1 by itself, -/
theorem AB_one (c : Dev nD) : rows 128 (AB m c) (cRow c 1) = T128 m c (cRow c 1) := by
  have hlt := vt_lt c (xr c 1)
  have hb : cRow c 1 + 128 ≤ 1024 := by unfold cRow; omega
  refine (rows_ext (y := tiles 128 (by decide) (T128 m c)) (fun i h1 h2 => ?_) hb).trans ?_
  · unfold AB
    rw [if_pos]
    unfold cRow at h1 h2
    rw [← pair_eq c]
    omega
  · exact rows_tiles (by decide) (T128 m c) (vt (xr c 1).val) (by unfold cRow at hb; omega)

/-- and the device's own chunk of the gathered result is its sum. -/
theorem SG_own (c : Dev nD) : rows 128 (SG m) (cRow c 0) = RED m c := by
  have hlt := vt_lt c c
  rw [cRow_self]
  refine (rows_tiles (by decide) _ (vt c.val) (by omega)).trans (congrArg (RED m) (Fin.ext ?_))
  show vt (vt c.val * 128 / 128) % 8 = c.val
  rw [Nat.mul_div_cancel _ (by decide), vt_vt]

/-- A pair of chunks is two chunks. -/
theorem pair_rows (c : Dev nD) : ∀ j < 8, 2 ≤ j → j % 2 = 0 → cRow c j = gRow c j ∧ cRow c (j + 1) = gRow c j + 128 ∨ cRow c j = gRow c j + 128 ∧ cRow c (j + 1) = gRow c j := by
  revert c; decide
theorem acc_pair (c : Dev nD) (j : ℕ) (hj : j < 8) (hj' : 2 ≤ j) (h2 : j % 2 = 0) :
    (accL c ↦[rws (gRow c j) 256]{fullShare} (AB m c : Buf (Elt F) (accL c)) : sProp 𝕄) ⊢ iprop(accP m c j ∗ accP m c (j + 1)) := by
  have hc := pair_rows c j hj hj' h2
  have hs : rws (gRow c j) 256 = rws (cRow c j) 128 ∪ rws (cRow c (j + 1)) 128 := by
    ext i
    rw [Finset.mem_union, mem_rws, mem_rws, mem_rws]; omega
  have hd : Disjoint (rws (cRow c j) 128) (rws (cRow c (j + 1)) 128) := by
    rw [Finset.disjoint_left]; intro i; rw [mem_rws, mem_rws]; omega
  unfold accP
  rw [hs]
  exact (pointsTo_union hd).1

end Cert.KernelIdeal.Moe

end
-- ==== Proof.PartsG.lean ====
/-
# The all-gather, part by part

The parts of the body from the first transfer of the all-gather to the end.  Each part is a sequence
of the steps of `Gather`: it moves the state `G` on by the number of its operations of each kind.
-/
module

public import proofs.«01_k».proof.Proof.Gather

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ)

/-- What depends on the kernel's buffers and semaphores, -/
abbrev Bufs (R : Type _) : Type _ :=
  (arg0 : Memref sig .tc .vmem S1024x256 .f32) → arg0.IsWhole → (arg1 : Memref sig .tc .vmem S256x32 .f32) → arg1.IsWhole →
  (arg2 : Memref sig .tc .vmem S1024x1 .i32) → arg2.IsWhole → (arg3 : Memref sig .tc .vmem S4x256x512 .f32) → arg3.IsWhole →
  (arg4 : Memref sig .tc .vmem S256x512 .f32) → arg4.IsWhole → (arg5 : Memref sig .tc .vmem S1024x512 .f32) → arg5.IsWhole →
  (arg6 : Memref sig .tc .vmem S1024x512 .f32) → arg6.IsWhole → (arg7 : Memref sig .tc .vmem S1024x512 .bf16) → arg7.IsWhole →
  (arg8 : Memref sig .tc .vmem S1024x512 .bf16) → arg8.IsWhole → (arg9 : Memref sig .tc .vmem S1024x1 .f32) → arg9.IsWhole →
  (arg10 : Memref sig .tc .vmem S7x128x512 .bf16) → arg10.IsWhole → (arg11 : Memref sig .tc .vmem S1024x256 .bf16) → arg11.IsWhole →
  (arg12 : Memref sig .tc .vmem S1280x512 .bf16) → arg12.IsWhole → DmaSems sig S7 → DmaSems sig S7 → DmaSems sig S21 → DmaSems sig S21 → R

/-- at those of the launch. -/
abbrev onBufs {R : Type _} (f : Bufs R) : R :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) cc0_scratch7 cc0_scratch8 cc0_scratch9 cc0_scratch10

variable (c : Dev nD)

theorem part_done {S : sProp 𝕄} {α : Type _} {x : α} {Q : α → sProp 𝕄} : S ⊢ iprop((∀ r, S -∗ Q r) -∗ Runs c (.ret x : CoreProg F α) Q) := by
  iintro HS Hk
  unfold Runs
  rw [wp_ret]; imodintro
  iapply Hk; iexact HS

/-- The whole of the widening of a piece. -/
theorem cv_step {ns nr nw : ℕ} (nc : ℕ) (hp : cvP nc < 3 + nr) {n : ℕ} (hn : n = pLen (cvP nc)) {off : Fin 2 → ℕ} (hoff : off = ![pRow c (cvP nc), 0])
    {inb inb' : ∀ a, off a + (![n, 512] : Fin 2 → ℕ) a ≤ S1024x512.size a} {r : LoadRect S1024x512}
    {pay : ((⟨2, ![n, 512]⟩ : Shape).Idx → Elt F .bf16) → (⟨2, ![n, 512]⟩ : Shape).Idx → Elt F .f32} (hw : pay = fun x => extf .f32 x bitsLt_bf16_f32)
    {hl hl' hx hm} {α : Type} {kk : PUnit → CoreProg F α} {Q : α → sProp 𝕄} :
    G m K c ns nr nw nc
      ⊢ iprop((G m K c ns nr nw (nc + 1) -∗ Runs c (kk ⟨⟩) Q)
          -∗ Runs c (.op (.load stM (Rect.unit (s := S1024x512) off ![n, 512] inb).toLoadRect hl) fun v =>
              .op (.load outM r hl') fun _ => .op (.store outM (Rect.unit (s := S1024x512) off ![n, 512] inb') (pay v) Finset.univ hx hm) kk) Q) := by
  iintro HG Hk
  iapply (cv_load m K c (cvP nc) hp hn hoff) $$ HG; iintro HG
  iapply (cv_dead m K c) $$ HG; iintro %v HG
  iapply (cv_store m K c nc hn hoff (by rw [hw])) $$ HG
  iexact Hk

/-- The own rows leave: group 0, second and third transfers; -/
theorem part17 (w₁ w₂ w₃ w₄) {Q} :
    G m K c 1 0 0 0 ⊢ iprop((∀ r, G m K c 3 0 0 0 -∗ Q r) -∗ Runs c (onBufs (k0_part17 (F := F)) c w₁ w₂ w₃ w₄) Q) := by
  simp only [onBufs, k0_part17_eq_skeleton]
  unfold k0_part17_skel
  simp only [Prog.lift, Prog.bind_op, Prog.bind_ret, Prog.pure_eq_ret]
  iintro HG Hk
  iapply (ag_send m K c 1 (by decide) (by decide) (by decide) (n := 48) rfl ((off11_eq c).1) (dev16_eq c) rfl rfl) $$ HG; iintro HG
  iapply (ag_send m K c 2 (by decide) (by decide) (by decide) (n := 48) rfl ((off11_eq c).1) (dev17_eq c) rfl rfl) $$ HG; iintro HG
  iapply (part_done c) $$ HG; iexact Hk

/-- group 1, first; -/
theorem part18 (w₁ w₂ w₃) {Q} :
    G m K c 3 0 0 0 ⊢ iprop((∀ r, G m K c 4 0 0 0 -∗ Q r) -∗ Runs c (onBufs (k0_part18 (F := F)) c w₁ w₂ w₃) Q) := by
  simp only [onBufs, k0_part18_eq_skeleton]
  unfold k0_part18_skel
  simp only [Prog.lift, Prog.bind_op, Prog.bind_ret, Prog.pure_eq_ret]
  iintro HG Hk
  iapply (ag_send m K c 3 (by decide) (by decide) (by decide) (n := 48) rfl ((off11_eq c).2.1) (dev18_eq c) rfl rfl) $$ HG; iintro HG
  iapply (part_done c) $$ HG; iexact Hk

/-- group 1, second and third; -/
theorem part19 (w₁ w₂) {Q} :
    G m K c 4 0 0 0 ⊢ iprop((∀ r, G m K c 6 0 0 0 -∗ Q r) -∗ Runs c (onBufs (k0_part19 (F := F)) c w₁ w₂) Q) := by
  simp only [onBufs, k0_part19_eq_skeleton]
  unfold k0_part19_skel
  simp only [Prog.lift, Prog.bind_op, Prog.bind_ret, Prog.pure_eq_ret]
  iintro HG Hk
  iapply (ag_send m K c 4 (by decide) (by decide) (by decide) (n := 48) rfl ((off11_eq c).2.1) (dev19_eq c) rfl rfl) $$ HG; iintro HG
  iapply (ag_send m K c 5 (by decide) (by decide) (by decide) (n := 48) rfl ((off11_eq c).2.1) (dev20_eq c) rfl rfl) $$ HG; iintro HG
  iapply (part_done c) $$ HG; iexact Hk

/-- group 2, first and second; -/
theorem part20 (w₁ w₂) {Q} :
    G m K c 6 0 0 0 ⊢ iprop((∀ r, G m K c 8 0 0 0 -∗ Q r) -∗ Runs c (onBufs (k0_part20 (F := F)) c w₁ w₂) Q) := by
  simp only [onBufs, k0_part20_eq_skeleton]
  unfold k0_part20_skel
  simp only [Prog.lift, Prog.bind_op, Prog.bind_ret, Prog.pure_eq_ret]
  iintro HG Hk
  iapply (ag_send m K c 6 (by decide) (by decide) (by decide) (n := 32) rfl ((off12_eq c).1) (dev21_eq c) rfl rfl) $$ HG; iintro HG
  iapply (ag_send m K c 7 (by decide) (by decide) (by decide) (n := 32) rfl ((off12_eq c).1) (dev22_eq c) rfl rfl) $$ HG; iintro HG
  iapply (part_done c) $$ HG; iexact Hk

/-- group 2, third; the first piece comes in and is passed on; -/
theorem part21 (w₁ w₂ w₃) {Q} :
    G m K c 8 0 0 0 ⊢ iprop((∀ r, G m K c 10 1 0 0 -∗ Q r) -∗ Runs c (onBufs (k0_part21 (F := F)) c w₁ w₂ w₃) Q) := by
  simp only [onBufs, k0_part21_eq_skeleton]
  unfold k0_part21_skel
  simp only [Prog.lift, Prog.bind_op, Prog.bind_ret, Prog.pure_eq_ret]
  iintro HG Hk
  iapply (ag_send m K c 8 (by decide) (by decide) (by decide) (n := 32) rfl ((off12_eq c).1) (dev23_eq c) rfl rfl) $$ HG; iintro HG
  iapply (ag_recv m K c (ns := 9) 0 (by decide) (by decide) (by decide) rfl (n := 48) rfl) $$ HG; iintro HG
  iapply (ag_send m K c 9 (by decide) (by decide) (by decide) (n := 48) rfl ((off11_eq c).2.2.1) (dev24_eq c) rfl rfl) $$ HG; iintro HG
  iapply (part_done c) $$ HG; iexact Hk

/-- again, and group 1's first comes in; -/
theorem part22 (w₁ w₂ w₃ w₄ w₅) {Q} :
    G m K c 10 1 0 0 ⊢ iprop((∀ r, G m K c 11 2 0 0 -∗ Q r) -∗ Runs c (onBufs (k0_part22 (F := F)) c w₁ w₂ w₃ w₄ w₅) Q) := by
  simp only [onBufs, k0_part22_eq_skeleton]
  unfold k0_part22_skel
  simp only [Prog.lift, Prog.bind_op, Prog.bind_ret, Prog.pure_eq_ret]
  iintro HG Hk
  iapply (ag_send m K c 10 (by decide) (by decide) (by decide) (n := 48) rfl ((off11_eq c).2.2.1) (dev25_eq c) rfl rfl) $$ HG; iintro HG
  iapply (ag_recv m K c (ns := 11) 1 (by decide) (by decide) (by decide) rfl (n := 48) rfl) $$ HG; iintro HG
  iapply (part_done c) $$ HG; iexact Hk

/-- which is passed on, and group 2's first comes in; -/
theorem part23 (w₁ w₂ w₃) {Q} :
    G m K c 11 2 0 0 ⊢ iprop((∀ r, G m K c 13 3 0 0 -∗ Q r) -∗ Runs c (onBufs (k0_part23 (F := F)) c w₁ w₂ w₃) Q) := by
  simp only [onBufs, k0_part23_eq_skeleton]
  unfold k0_part23_skel
  simp only [Prog.lift, Prog.bind_op, Prog.bind_ret, Prog.pure_eq_ret]
  iintro HG Hk
  iapply (ag_send m K c 11 (by decide) (by decide) (by decide) (n := 48) rfl ((off11_eq c).2.2.2.2.1) (dev26_eq c) rfl rfl) $$ HG; iintro HG
  iapply (ag_send m K c 12 (by decide) (by decide) (by decide) (n := 48) rfl ((off11_eq c).2.2.2.2.1) (dev27_eq c) rfl rfl) $$ HG; iintro HG
  iapply (ag_recv m K c (ns := 13) 2 (by decide) (by decide) (by decide) rfl (n := 32) rfl) $$ HG; iintro HG
  iapply (part_done c) $$ HG; iexact Hk

/-- which is passed on. -/
theorem part24 (w₁ w₂ w₃ w₄) {Q} :
    G m K c 13 3 0 0 ⊢ iprop((∀ r, G m K c 15 3 0 0 -∗ Q r) -∗ Runs c (onBufs (k0_part24 (F := F)) c w₁ w₂ w₃ w₄) Q) := by
  simp only [onBufs, k0_part24_eq_skeleton]
  unfold k0_part24_skel
  simp only [Prog.lift, Prog.bind_op, Prog.bind_ret, Prog.pure_eq_ret]
  iintro HG Hk
  iapply (ag_send m K c 13 (by decide) (by decide) (by decide) (n := 32) rfl ((off12_eq c).2.1) (dev28_eq c) rfl rfl) $$ HG; iintro HG
  iapply (ag_send m K c 14 (by decide) (by decide) (by decide) (n := 32) rfl ((off12_eq c).2.1) (dev29_eq c) rfl rfl) $$ HG; iintro HG
  iapply (part_done c) $$ HG; iexact Hk

/-- Two pieces of group 0 come in, one is passed on; -/
theorem part25 (w₁ w₂ w₃ w₄) {Q} :
    G m K c 15 3 0 0 ⊢ iprop((∀ r, G m K c 16 5 0 0 -∗ Q r) -∗ Runs c (onBufs (k0_part25 (F := F)) c w₁ w₂ w₃ w₄) Q) := by
  simp only [onBufs, k0_part25_eq_skeleton]
  unfold k0_part25_skel
  simp only [Prog.lift, Prog.bind_op, Prog.bind_ret, Prog.pure_eq_ret]
  iintro HG Hk
  iapply (ag_recv m K c (ns := 15) 3 (by decide) (by decide) (by decide) rfl (n := 48) rfl) $$ HG; iintro HG
  iapply (ag_recv m K c (ns := 15) 4 (by decide) (by decide) (by decide) rfl (n := 48) rfl) $$ HG; iintro HG
  iapply (ag_send m K c 15 (by decide) (by decide) (by decide) (n := 48) rfl ((off11_eq c).2.2.2.1) (dev30_eq c) rfl rfl) $$ HG; iintro HG
  iapply (part_done c) $$ HG; iexact Hk

/-- the other is; two of group 1 come in; -/
theorem part26 (w₁ w₂ w₃ w₄ w₅ w₆ w₇) {Q} :
    G m K c 16 5 0 0 ⊢ iprop((∀ r, G m K c 17 7 0 0 -∗ Q r) -∗ Runs c (onBufs (k0_part26 (F := F)) c w₁ w₂ w₃ w₄ w₅ w₆ w₇) Q) := by
  simp only [onBufs, k0_part26_eq_skeleton]
  unfold k0_part26_skel
  simp only [Prog.lift, Prog.bind_op, Prog.bind_ret, Prog.pure_eq_ret]
  iintro HG Hk
  iapply (ag_send m K c 16 (by decide) (by decide) (by decide) (n := 48) rfl ((off11_eq c).2.2.2.2.2.1) (dev31_eq c) rfl rfl) $$ HG; iintro HG
  iapply (ag_recv m K c (ns := 17) 5 (by decide) (by decide) (by decide) rfl (n := 48) rfl) $$ HG; iintro HG
  iapply (ag_recv m K c (ns := 17) 6 (by decide) (by decide) (by decide) rfl (n := 48) rfl) $$ HG; iintro HG
  iapply (part_done c) $$ HG; iexact Hk

/-- and are passed on; -/
theorem part27 (w₁ w₂ w₃ w₄) {Q} :
    G m K c 17 7 0 0 ⊢ iprop((∀ r, G m K c 19 7 0 0 -∗ Q r) -∗ Runs c (onBufs (k0_part27 (F := F)) c w₁ w₂ w₃ w₄) Q) := by
  simp only [onBufs, k0_part27_eq_skeleton]
  unfold k0_part27_skel
  simp only [Prog.lift, Prog.bind_op, Prog.bind_ret, Prog.pure_eq_ret]
  iintro HG Hk
  iapply (ag_send m K c 17 (by decide) (by decide) (by decide) (n := 48) rfl ((off11_eq c).2.2.2.2.2.2.1) (dev32_eq c) rfl rfl) $$ HG; iintro HG
  iapply (ag_send m K c 18 (by decide) (by decide) (by decide) (n := 48) rfl ((off11_eq c).2.2.2.2.2.2.2) (dev33_eq c) rfl rfl) $$ HG; iintro HG
  iapply (part_done c) $$ HG; iexact Hk

/-- two of group 2 come in, one is passed on; -/
theorem part28 (w₁ w₂ w₃) {Q} :
    G m K c 19 7 0 0 ⊢ iprop((∀ r, G m K c 20 9 0 0 -∗ Q r) -∗ Runs c (onBufs (k0_part28 (F := F)) c w₁ w₂ w₃) Q) := by
  simp only [onBufs, k0_part28_eq_skeleton]
  unfold k0_part28_skel
  simp only [Prog.lift, Prog.bind_op, Prog.bind_ret, Prog.pure_eq_ret]
  iintro HG Hk
  iapply (ag_recv m K c (ns := 19) 7 (by decide) (by decide) (by decide) rfl (n := 32) rfl) $$ HG; iintro HG
  iapply (ag_recv m K c (ns := 19) 8 (by decide) (by decide) (by decide) rfl (n := 32) rfl) $$ HG; iintro HG
  iapply (ag_send m K c 19 (by decide) (by decide) (by decide) (n := 32) rfl ((off12_eq c).2.2.1) (dev34_eq c) rfl rfl) $$ HG; iintro HG
  iapply (part_done c) $$ HG; iexact Hk

/-- the other is: the last transfer.  Two pieces are widened, a third read; -/
theorem part29 (w₁ w₂) {Q} :
    G m K c 20 9 0 0 ⊢ iprop((∀ w, G m K c 21 9 0 2 -∗ Q ⟨w, k0_pay32 (rows 48 (SG m) (pRow c 6))⟩) -∗ Runs c (onBufs (k0_part29 (F := F)) c w₁ w₂) Q) := by
  simp only [onBufs, k0_part29_eq_skeleton]
  unfold k0_part29_skel
  simp only [Prog.lift, Prog.bind_op, Prog.bind_ret, Prog.pure_eq_ret]
  iintro HG Hk
  iapply (ag_send m K c 20 (by decide) (by decide) (by decide) (n := 32) rfl ((off12_eq c).2.2.2) (dev35_eq c) rfl rfl) $$ HG; iintro HG
  iapply (cv_step m K c 0 (by decide) (n := 48) rfl ((off15_eq c).1) (pay := k0_pay30) rfl) $$ HG; iintro HG
  iapply (cv_step m K c 1 (by decide) (n := 48) rfl ((off15_eq c).2.1) (pay := k0_pay31) rfl) $$ HG; iintro HG
  iapply (cv_load m K c 6 (by decide) (n := 48) rfl ((off15_eq c).2.2.1)) $$ HG; iintro HG
  unfold Runs
  rw [wp_ret]; imodintro
  iapply Hk; iexact HG

/-- and written; four more are widened; -/
theorem part30 (w₁ w₂) {w} (hw : w = extf .f32 (rows 48 (SG m) (pRow c (cvP 2))) bitsLt_bf16_f32) {Q} :
    G m K c 21 9 0 2 ⊢ iprop((∀ r, G m K c 21 9 0 7 -∗ Q r) -∗ Runs c (onBufs (k0_part30 (F := F)) c w₁ w₂ w) Q) := by
  simp only [onBufs, k0_part30_eq_skeleton]
  unfold k0_part30_skel
  simp only [Prog.lift, Prog.bind_op, Prog.bind_ret, Prog.pure_eq_ret]
  iintro HG Hk
  iapply (cv_dead m K c) $$ HG; iintro %v HG
  iapply (cv_store m K c 2 (n := 48) rfl ((off15_eq c).2.2.1) hw) $$ HG; iintro HG
  iapply (cv_step m K c 3 (by decide) (n := 48) rfl ((off15_eq c).2.2.2.1) (pay := k0_pay33) rfl) $$ HG; iintro HG
  iapply (cv_step m K c 4 (by decide) (n := 48) rfl ((off15_eq' c).1) (pay := k0_pay34) rfl) $$ HG; iintro HG
  iapply (cv_step m K c 5 (by decide) (n := 48) rfl ((off15_eq' c).2.2.1) (pay := k0_pay35) rfl) $$ HG; iintro HG
  iapply (cv_step m K c 6 (by decide) (n := 48) rfl ((off15_eq' c).2.2.2.2.1) (pay := k0_pay36) rfl) $$ HG; iintro HG
  iapply (part_done c) $$ HG; iexact Hk

/-- four more; -/
theorem part31 (w₁) {Q} :
    G m K c 21 9 0 7 ⊢ iprop((∀ r, G m K c 21 9 0 11 -∗ Q r) -∗ Runs c (onBufs (k0_part31 (F := F)) c w₁) Q) := by
  simp only [onBufs, k0_part31_eq_skeleton]
  unfold k0_part31_skel
  simp only [Prog.lift, Prog.bind_op, Prog.bind_ret, Prog.pure_eq_ret]
  iintro HG Hk
  iapply (cv_step m K c 7 (by decide) (n := 48) rfl ((off15_eq' c).2.2.2.2.2.2.1) (pay := k0_pay37) rfl) $$ HG; iintro HG
  iapply (cv_step m K c 8 (by decide) (n := 32) rfl ((off16_eq c).1) (pay := k0_pay38) rfl) $$ HG; iintro HG
  iapply (cv_step m K c 9 (by decide) (n := 32) rfl ((off16_eq c).2.2.2.2.1) (pay := k0_pay39) rfl) $$ HG; iintro HG
  iapply (cv_step m K c 10 (by decide) (n := 32) rfl ((off16_eq c).2.1) (pay := k0_pay40) rfl) $$ HG; iintro HG
  iapply (part_done c) $$ HG; iexact Hk

/-- one more; three pieces of group 0 come in; -/
theorem part32 (w₁ w₂ w₃ w₄ w₅) {Q} :
    G m K c 21 9 0 11 ⊢ iprop((∀ r, G m K c 21 12 0 12 -∗ Q r) -∗ Runs c (onBufs (k0_part32 (F := F)) c w₁ w₂ w₃ w₄ w₅) Q) := by
  simp only [onBufs, k0_part32_eq_skeleton]
  unfold k0_part32_skel
  simp only [Prog.lift, Prog.bind_op, Prog.bind_ret, Prog.pure_eq_ret]
  iintro HG Hk
  iapply (cv_step m K c 11 (by decide) (n := 32) rfl ((off16_eq c).2.2.2.2.2.1) (pay := k0_pay41) rfl) $$ HG; iintro HG
  iapply (ag_recv m K c (ns := 21) 9 (by decide) (by decide) (by decide) rfl (n := 48) rfl) $$ HG; iintro HG
  iapply (ag_recv m K c (ns := 21) 10 (by decide) (by decide) (by decide) rfl (n := 48) rfl) $$ HG; iintro HG
  iapply (ag_recv m K c (ns := 21) 11 (by decide) (by decide) (by decide) rfl (n := 48) rfl) $$ HG; iintro HG
  iapply (part_done c) $$ HG; iexact Hk

/-- and the fourth, and the four are widened; -/
theorem part33 (w₁) {Q} :
    G m K c 21 12 0 12 ⊢ iprop((∀ r, G m K c 21 13 0 16 -∗ Q r) -∗ Runs c (onBufs (k0_part33 (F := F)) c w₁) Q) := by
  simp only [onBufs, k0_part33_eq_skeleton]
  unfold k0_part33_skel
  simp only [Prog.lift, Prog.bind_op, Prog.bind_ret, Prog.pure_eq_ret]
  iintro HG Hk
  iapply (ag_recv m K c (ns := 21) 12 (by decide) (by decide) (by decide) rfl (n := 48) rfl) $$ HG; iintro HG
  iapply (cv_step m K c 12 (by decide) (n := 48) rfl ((off15_eq c).2.2.2.2.1) (pay := k0_pay42) rfl) $$ HG; iintro HG
  iapply (cv_step m K c 13 (by decide) (n := 48) rfl ((off15_eq c).2.2.2.2.2.1) (pay := k0_pay43) rfl) $$ HG; iintro HG
  iapply (cv_step m K c 14 (by decide) (n := 48) rfl ((off15_eq c).2.2.2.2.2.2.1) (pay := k0_pay44) rfl) $$ HG; iintro HG
  iapply (cv_step m K c 15 (by decide) (n := 48) rfl ((off15_eq c).2.2.2.2.2.2.2) (pay := k0_pay45) rfl) $$ HG; iintro HG
  iapply (part_done c) $$ HG; iexact Hk

/-- four of group 1 come in, one is read; -/
theorem part34 (w₁ w₂ w₃ w₄ w₅) {Q} :
    G m K c 21 13 0 16 ⊢ iprop((∀ w, G m K c 21 17 0 16 -∗ Q ⟨w, k0_pay46 (rows 48 (SG m) (pRow c 16))⟩) -∗ Runs c (onBufs (k0_part34 (F := F)) c w₁ w₂ w₃ w₄ w₅) Q) := by
  simp only [onBufs, k0_part34_eq_skeleton]
  unfold k0_part34_skel
  simp only [Prog.lift, Prog.bind_op, Prog.bind_ret, Prog.pure_eq_ret]
  iintro HG Hk
  iapply (ag_recv m K c (ns := 21) 13 (by decide) (by decide) (by decide) rfl (n := 48) rfl) $$ HG; iintro HG
  iapply (ag_recv m K c (ns := 21) 14 (by decide) (by decide) (by decide) rfl (n := 48) rfl) $$ HG; iintro HG
  iapply (ag_recv m K c (ns := 21) 15 (by decide) (by decide) (by decide) rfl (n := 48) rfl) $$ HG; iintro HG
  iapply (ag_recv m K c (ns := 21) 16 (by decide) (by decide) (by decide) rfl (n := 48) rfl) $$ HG; iintro HG
  iapply (cv_load m K c 16 (by decide) (n := 48) rfl ((off15_eq' c).2.1)) $$ HG; iintro HG
  unfold Runs
  rw [wp_ret]; imodintro
  iapply Hk; iexact HG

/-- and written, the other three are widened; one of group 2 comes in; -/
theorem part35 (w₁ w₂ w₃) {w} (hw : w = extf .f32 (rows 48 (SG m) (pRow c (cvP 16))) bitsLt_bf16_f32) {Q} :
    G m K c 21 17 0 16 ⊢ iprop((∀ r, G m K c 21 18 0 20 -∗ Q r) -∗ Runs c (onBufs (k0_part35 (F := F)) c w₁ w₂ w₃ w) Q) := by
  simp only [onBufs, k0_part35_eq_skeleton]
  unfold k0_part35_skel
  simp only [Prog.lift, Prog.bind_op, Prog.bind_ret, Prog.pure_eq_ret]
  iintro HG Hk
  iapply (cv_dead m K c) $$ HG; iintro %v HG
  iapply (cv_store m K c 16 (n := 48) rfl ((off15_eq' c).2.1) hw) $$ HG; iintro HG
  iapply (cv_step m K c 17 (by decide) (n := 48) rfl ((off15_eq' c).2.2.2.1) (pay := k0_pay47) rfl) $$ HG; iintro HG
  iapply (cv_step m K c 18 (by decide) (n := 48) rfl ((off15_eq' c).2.2.2.2.2.1) (pay := k0_pay48) rfl) $$ HG; iintro HG
  iapply (cv_step m K c 19 (by decide) (n := 48) rfl ((off15_eq' c).2.2.2.2.2.2.2) (pay := k0_pay49) rfl) $$ HG; iintro HG
  iapply (ag_recv m K c (ns := 21) 17 (by decide) (by decide) (by decide) rfl (n := 32) rfl) $$ HG; iintro HG
  iapply (part_done c) $$ HG; iexact Hk

/-- and the last three; one is widened. -/
theorem part36 (w₁ w₂ w₃ w₄) {Q} :
    G m K c 21 18 0 20 ⊢ iprop((∀ r, G m K c 21 21 0 21 -∗ Q r) -∗ Runs c (onBufs (k0_part36 (F := F)) c w₁ w₂ w₃ w₄) Q) := by
  simp only [onBufs, k0_part36_eq_skeleton]
  unfold k0_part36_skel
  simp only [Prog.lift, Prog.bind_op, Prog.bind_ret, Prog.pure_eq_ret]
  iintro HG Hk
  iapply (ag_recv m K c (ns := 21) 18 (by decide) (by decide) (by decide) rfl (n := 32) rfl) $$ HG; iintro HG
  iapply (ag_recv m K c (ns := 21) 19 (by decide) (by decide) (by decide) rfl (n := 32) rfl) $$ HG; iintro HG
  iapply (ag_recv m K c (ns := 21) 20 (by decide) (by decide) (by decide) rfl (n := 32) rfl) $$ HG; iintro HG
  iapply (cv_step m K c 20 (by decide) (n := 32) rfl ((off16_eq c).2.2.1) (pay := k0_pay50) rfl) $$ HG; iintro HG
  iapply (part_done c) $$ HG; iexact Hk

end Cert.KernelIdeal.Moe

end
-- ==== Proof.PartsR.lean ====
/-
# The first half of the body, part by part

The barrier, the products, the reduce-scatter and the sum, up to the first transfer of the all-gather.
-/
module

public import proofs.«01_k».proof.Proof.Scatter
public import proofs.«01_k».proof.Proof.PartsG

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ) (c : Dev nD)

/-! ## The buffers the products are made from -/

/-- A buffer of device `c` that holds `f`, -/
abbrev Holds (b : Ref sig .tc) (f : b.ty.Contents (Elt F)) : sProp 𝕄 := iprop(((c : Thread nD τ).loc b) ↦{fullShare} (f : Buf (Elt F) ((c : Thread nD τ).loc b)))
/-- and one that holds anything. -/
abbrev Some' (b : Ref sig .tc) : sProp 𝕄 := iprop(∃ f : b.ty.Contents (Elt F), Holds c b f)

/-- The rows, the expert of each, the router's weight of each, the rows rounded, the matrices. -/
def Env : sProp 𝕄 :=
  iprop(Holds c cc0_stg0_0 (X m c) ∗ Holds c cc0_stg2_0 (IX m c) ∗ Holds c cc0_scratch3 (GT m c) ∗ Holds c cc0_scratch5 (XB m c) ∗ Holds c cc0_scratch6 (WC m c))

theorem zero2 : (![0, 0] : Fin 2 → ℕ) = fun _ => 0 := funext fun a => by fin_cases a <;> rfl
theorem zero3 : (![0, 0, 0] : Fin 3 → ℕ) = fun _ => 0 := funext fun a => by fin_cases a <;> rfl

/-- The matrices after the two stores. -/
theorem WC_eq (f : S1280x512.Idx → Elt F .bf16) (h h') :
    updateSlice (updateSlice f (k0_pay4 (EW m c)) ![0, 0] h) (k0_pay5 (SW m c)) ![1024, 0] h' = WC m c := by
  funext i
  have hi : (i 0).val < 1280 := (i 0).isLt
  have hi1 : (i 1).val < 512 := (i 1).isLt
  unfold updateSlice WC
  by_cases h0 : (i 0).val < 1024
  · rw [dif_pos h0]
    refine (dif_neg fun hin => ?_).trans ((dif_pos fun a => ?_).trans (congrArg (k0_pay4 (EW m c)) (funext fun a => Fin.ext ?_)))
    · have : 1024 ≤ (i 0).val := (hin 0).1; omega
    · match a with
      | 0 => exact ⟨Nat.zero_le _, by show (i 0).val < 0 + 1024; omega⟩
      | 1 => exact ⟨Nat.zero_le _, by show (i 1).val < 0 + 512; omega⟩
    · match a with
      | 0 => show (i 0).val - 0 = (i 0).val; omega
      | 1 => show (i 1).val - 0 = (i 1).val; omega
  · rw [dif_neg h0]
    refine (dif_pos fun a => ?_).trans (congrArg (k0_pay5 (SW m c)) (funext fun a => Fin.ext ?_))
    · match a with
      | 0 => exact ⟨by show 1024 ≤ (i 0).val; omega, by show (i 0).val < 1024 + 256; omega⟩
      | 1 => exact ⟨Nat.zero_le _, by show (i 1).val < 0 + 512; omega⟩
    · match a with
      | 0 => rfl
      | 1 => show (i 1).val - 0 = (i 1).val; omega

/-! ## The barrier's signals; the weights; the matrices -/

/-- A load of what has just been stored. -/
theorem back_load {s : Shape} {e : EltTy} (M : Memref sig .tc .vmem s e) {f : Buf (Elt F) (M.view.loc (c : Thread nD τ))} {r : Rect s} {w : r.shape.Idx → Elt F e}
    {hl} {α : Type} {kk : _ → CoreProg F α} {Q : α → sProp 𝕄} :
    (M.view.loc (c : Thread nD τ) ↦{fullShare} (M.access r).write (Elt F) f w Finset.univ)
      ⊢ iprop(((M.view.loc (c : Thread nD τ) ↦{fullShare} (M.access r).write (Elt F) f w Finset.univ) -∗ Runs c (kk w) Q) -∗ Runs c (.op (.load M r.toLoadRect hl) kk) Q) :=
  any_load c M (View.read_write_univ (v := M.access r) f w)

/-- Five signals. -/
theorem part1 {Q} :
    Sg m K c 0 ⊢ iprop((∀ w w', Sg m K c 5 -∗ Q ⟨c, wd c, w, SemArray.scalar (sig.barrier 0 rfl), w'⟩) -∗ Runs c (onBufs (k0_part1 (F := F))) Q) := by
  simp only [onBufs, k0_part1_eq_skeleton]
  unfold k0_part1_skel
  simp only [semSignalWord, semWaitWord, Prog.lift, Prog.bind_op, Prog.bind_ret, Prog.pure_eq_ret]
  unfold Runs wd
  simp only [wp_deviceId]
  iintro HS Hk
  iapply (bar_signal m K c 0 (by decide) (dev1_eq c) rfl) $$ HS; iintro HS
  iapply (bar_signal m K c 1 (by decide) (dev2_eq c) rfl) $$ HS; iintro HS
  iapply (bar_signal m K c 2 (by decide) (dev3_eq c) rfl) $$ HS; iintro HS
  iapply (bar_signal m K c 3 (by decide) (dev4_eq c) rfl) $$ HS; iintro HS
  iapply (bar_signal m K c 4 (by decide) (dev5_eq c) rfl) $$ HS; iintro HS
  unfold Runs
  rw [wp_ret]; imodintro
  iapply Hk $$ HS

/-- Two more; the router's weights are computed and stored; the rows are read to be rounded. -/
theorem part2 (w₁ w₂) {Q} :
    iprop(Sg m K c 5 ∗ Holds c cc0_stg0_0 (X m c) ∗ Holds c cc0_stg1_0 (RW m c) ∗ Holds c cc0_stg2_0 (IX m c) ∗ Some' c cc0_scratch3 ∗ Some' c cc0_scratch5)
      ⊢ iprop(((Sg m K c 7 ∗ Holds c cc0_stg0_0 (X m c) ∗ Holds c cc0_stg1_0 (RW m c) ∗ Holds c cc0_stg2_0 (IX m c) ∗ Holds c cc0_scratch3 (GT m c) ∗ Some' c cc0_scratch5) -∗ Q (k0_pay2 (X m c)))
        -∗ Runs c (onBufs (k0_part2 (F := F)) c w₁ (SemArray.scalar (sig.barrier 0 rfl)) w₂) Q) := by
  simp only [onBufs, k0_part2_eq_skeleton]
  unfold k0_part2_skel
  simp only [semSignalWord, semWaitWord, Prog.lift, Prog.bind_op, Prog.bind_ret, Prog.pure_eq_ret]
  iintro ⟨HS, HX, HR, HI, ⟨%g, HG⟩, ⟨%b, HB⟩⟩ Hk
  iapply (bar_signal m K c 5 (by decide) (dev6_eq c) rfl) $$ HS; iintro HS
  iapply (bar_signal m K c 6 (by decide) (dev7_eq c) rfl) $$ HS; iintro HS
  iapply (any_load c (Memref.whole cc0_stg0_0) (Memref.readAt_unit_zero (Elt F) cc0_stg0_0 zero2 _ _)) $$ HX; iintro HX
  iapply (any_load c (Memref.whole cc0_stg1_0) (Memref.readAt_unit_zero (Elt F) cc0_stg1_0 zero2 _ _)) $$ HR; iintro HR
  iapply (any_load c (Memref.whole cc0_stg2_0) (Memref.readAt_unit_zero (Elt F) cc0_stg2_0 zero2 _ _)) $$ HI; iintro HI
  iapply (any_load c (Memref.whole cc0_scratch3) (Memref.readAt_unit_zero (Elt F) cc0_scratch3 zero2 _ _)) $$ HG; iintro HG
  iapply (any_store c (Memref.whole cc0_scratch3) (Memref.write_access_unit_zero_univ (Elt F) cc0_scratch3 zero2 _ _ _)) $$ HG; iintro HG
  iapply (any_load c (Memref.whole cc0_stg0_0) (Memref.readAt_unit_zero (Elt F) cc0_stg0_0 zero2 _ _)) $$ HX; iintro HX
  iapply (any_load c (Memref.whole cc0_scratch5) (Memref.readAt_unit_zero (Elt F) cc0_scratch5 zero2 _ _)) $$ HB; iintro HB
  unfold Runs
  rw [wp_ret]; imodintro
  iapply Hk
  isplitl [HS]; · iexact HS
  isplitl [HX]; · iexact HX
  isplitl [HR]; · iexact HR
  isplitl [HI]; · iexact HI
  isplitl [HG]; · iexact HG
  iexists _; iexact HB

/-- The rows rounded and the matrices are stored; the partners' signals have come; the first pair of chunks is read. -/
theorem part3 (w₁) {Q} :
    iprop(Ctx m K ∗ Ow c 7 ∗ atPos ER (kcell c 0) 0 ∅ 0 ∗ cred (tallyAt (kcell c 0) () 7) ∗ Holds c cc0_stg0_0 (X m c) ∗ Holds c cc0_stg2_0 (IX m c)
        ∗ Holds c cc0_stg3_0 (EW m c) ∗ Holds c cc0_stg4_0 (SW m c) ∗ Holds c cc0_scratch3 (GT m c) ∗ Some' c cc0_scratch5 ∗ Some' c cc0_scratch6)
      ⊢ iprop((∀ w, (Ow c 7 ∗ semVal (kcell c 0) 0 ∗ bigSep (Finset.Ico 1 8) (barPay (F := F) c) ∗ Holds c cc0_stg3_0 (EW m c) ∗ Holds c cc0_stg4_0 (SW m c) ∗ Env m c)
          -∗ Q ⟨w, rows 256 (XB m c) (gRow c 6), k0_pay6 (rows 256 (IX m c) (gRow c 6)), rows 256 (GT m c) (gRow c 6), k0_pay7 (rows 256 (X m c) (gRow c 6))⟩)
        -∗ Runs c (onBufs (k0_part3 (F := F)) c w₁ (SemArray.scalar (sig.barrier 0 rfl)) (k0_pay2 (X m c))) Q) := by
  simp only [onBufs, k0_part3_eq_skeleton]
  unfold k0_part3_skel
  simp only [semSignalWord, semWaitWord, Prog.lift, Prog.bind_op, Prog.bind_ret, Prog.pure_eq_ret]
  iintro ⟨#HC, HO, Hat, Hcr, HX, HI, HE, HV, HG, ⟨%b, HB⟩, ⟨%f, HW⟩⟩ Hk
  iapply (any_store c (Memref.whole cc0_scratch5) (g := XB m c) (Memref.write_access_unit_zero_univ (Elt F) cc0_scratch5 zero2 _ _ _)) $$ HB; iintro HB
  iapply (any_load c (Memref.whole cc0_stg3_0) (Memref.readAt_unit_zero (Elt F) cc0_stg3_0 zero3 _ _)) $$ HE; iintro HE
  iapply (any_load c (Memref.whole cc0_scratch6) rfl) $$ HW; iintro HW
  iapply (any_store c (Memref.whole cc0_scratch6) (View.write_whole_slice_unit (Val := Elt F) cc0_scratch6 ![0, 0] S1024x512.size inb_S1280x512_S1024x512_0_0 f _)) $$ HW; iintro HW
  iapply (any_load c (Memref.whole cc0_stg4_0) (Memref.readAt_unit_zero (Elt F) cc0_stg4_0 zero2 _ _)) $$ HV; iintro HV
  iapply (any_load c (Memref.whole cc0_scratch6) rfl) $$ HW; iintro HW
  iapply (any_store c (Memref.whole cc0_scratch6) ((View.write_whole_slice_unit (Val := Elt F) cc0_scratch6 ![1024, 0] S256x512.size inb_S1280x512_S256x512_1024_0 _ _).trans (WC_eq m c f ⟨rfl, inb_S1280x512_S1024x512_0_0⟩ ⟨rfl, inb_S1280x512_S256x512_1024_0⟩))) $$ HW; iintro HW
  iapply (bar_wait m K c rfl) $$ [HO Hat Hcr]
  · isplitr; · iexact HC
    isplitl [HO]; · iexact HO
    isplitl [Hat] <;> iassumption
  iintro ⟨HO, Hz, Hp⟩
  iapply (row_load c (Memref.whole cc0_scratch5) (f := XB m c) (x := XB m c) rfl ((off1_eq c).1)) $$ HB; iintro HB
  iapply (row_load c (Memref.whole cc0_stg2_0) (f := IX m c) (x := IX m c) rfl ((off2_eq c).1)) $$ HI; iintro HI
  iapply (row_load c (Memref.whole cc0_scratch3) (f := GT m c) (x := GT m c) rfl ((off2_eq c).1)) $$ HG; iintro HG
  iapply (row_load c (Memref.whole cc0_stg0_0) (f := X m c) (x := X m c) rfl ((off1_eq c).1)) $$ HX; iintro HX
  unfold Runs
  rw [wp_ret]; imodintro
  iapply Hk
  isplitl [HO]; · iexact HO
  isplitl [Hz]; · iexact Hz
  isplitl [Hp]; · iexact Hp
  isplitl [HE]; · iexact HE
  isplitl [HV]; · iexact HV
  unfold Env
  isplitl [HX]; · iexact HX
  isplitl [HI]; · iexact HI
  isplitl [HG]; · iexact HG
  isplitl [HB]; · iexact HB
  iexact HW

/-! ## The products and the reduce-scatter -/

/-- The products of the pair for partners 6 and 7. -/
theorem part4 (w₁) {Q} :
    iprop(Env m c ∗ accHole (F := F) c (gRow c 6) 256)
      ⊢ iprop((∀ w w' w'', (Env m c ∗ accP m c (rsJ 0) ∗ accP m c (rsJ 1)) -∗ Q ⟨w, w', w''⟩)
        -∗ Runs c (onBufs (k0_part4 (F := F)) c (wd c) w₁ (rows 256 (XB m c) (gRow c 6)) (k0_pay6 (rows 256 (IX m c) (gRow c 6))) (rows 256 (GT m c) (gRow c 6)) (k0_pay7 (rows 256 (X m c) (gRow c 6)))) Q) := by
  simp only [onBufs, k0_part4_eq_skeleton]
  unfold k0_part4_skel
  simp only [semSignalWord, semWaitWord, Prog.lift, Prog.bind_op, Prog.bind_ret, Prog.pure_eq_ret]
  unfold Env
  iintro ⟨⟨HX, HI, HG, HB, HW⟩, HA⟩ Hk
  iapply (any_load c (Memref.whole cc0_scratch6) (Memref.readAt_unit_zero (Elt F) cc0_scratch6 zero2 _ _)) $$ HW; iintro HW
  iapply (acc_dead c ((off3_eq c).1)) $$ HA; iintro %v HA
  iapply (acc_store c ((off3_eq c).1) (AB m c) (AB_pair m c 6 (by decide) (by decide)).symm) $$ HA; iintro HA
  ihave HA := (show _ ⊢ iprop(accP m c (rsJ 0) ∗ accP m c (rsJ 1)) from acc_pair m c 6 (by decide) (by decide) (by decide)) $$ HA
  icases HA with ⟨HA, HA'⟩
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  isplitl [HA]; · iexact HA
  iexact HA'

/-- They leave. -/
theorem part5 (w₁ w₂ w₃ w₄) {Q} :
    iprop(R m K c 0 0 ∗ accP m c (rsJ 0) ∗ accP m c (rsJ 1))
      ⊢ iprop((∀ r, R m K c 2 0 -∗ Q r)
        -∗ Runs c (onBufs (k0_part5 (F := F)) c w₁ w₂ w₃ w₄) Q) := by
  simp only [onBufs, k0_part5_eq_skeleton]
  unfold k0_part5_skel
  simp only [semSignalWord, semWaitWord, Prog.lift, Prog.bind_op, Prog.bind_ret, Prog.pure_eq_ret]
  iintro ⟨HR, HA, HA'⟩ Hk
  iapply (rs_send m K c 0 (by decide) ((off4_eq c).2.2.2.2.2.1) rfl (dev8_eq c) rfl rfl) $$ [HR HA]
  · isplitl [HR] <;> iassumption
  iintro HR
  iapply (rs_send m K c 1 (by decide) ((off4_eq c).2.2.2.2.2.2) rfl (dev9_eq c) rfl rfl) $$ [HR HA']
  · isplitl [HR] <;> iassumption
  iintro HR
  unfold Runs
  rw [wp_ret]; imodintro
  iapply Hk $$ HR

/-- The next pair is read; -/
theorem part6 (w₁) {Q} :
    Env m c
      ⊢ iprop((∀ w, Env m c -∗ Q ⟨w, (rows 256 (XB m c) (gRow c 2)), (k0_pay9 (rows 256 (IX m c) (gRow c 2))), (k0_pay10 (rows 256 (GT m c) (gRow c 2)) (rows 256 (X m c) (gRow c 2))), (k0_pay11 (F := F)), (k0_pay12 (wd c) (rows 256 (IX m c) (gRow c 2)) (rows 256 (GT m c) (gRow c 2)) (rows 256 (X m c) (gRow c 2))), (k0_pay13 (wd c) (rows 256 (IX m c) (gRow c 2)) (rows 256 (GT m c) (gRow c 2)) (rows 256 (X m c) (gRow c 2))), (k0_pay14 (wd c) (rows 256 (IX m c) (gRow c 2)) (rows 256 (GT m c) (gRow c 2)) (rows 256 (X m c) (gRow c 2))), (Scalar.muli (wd c) 4#32)⟩)
        -∗ Runs c (onBufs (k0_part6 (F := F)) c (wd c) w₁) Q) := by
  simp only [onBufs, k0_part6_eq_skeleton]
  unfold k0_part6_skel
  simp only [semSignalWord, semWaitWord, Prog.lift, Prog.bind_op, Prog.bind_ret, Prog.pure_eq_ret]
  unfold Env
  iintro ⟨HX, HI, HG, HB, HW⟩ Hk
  iapply (row_load c (Memref.whole cc0_scratch5) (f := XB m c) (x := XB m c) rfl ((off1_eq c).2.1)) $$ HB; iintro HB
  iapply (row_load c (Memref.whole cc0_stg2_0) (f := IX m c) (x := IX m c) rfl ((off2_eq c).2.1)) $$ HI; iintro HI
  iapply (row_load c (Memref.whole cc0_scratch3) (f := GT m c) (x := GT m c) rfl ((off2_eq c).2.1)) $$ HG; iintro HG
  iapply (row_load c (Memref.whole cc0_stg0_0) (f := X m c) (x := X m c) rfl ((off1_eq c).2.1)) $$ HX; iintro HX
  unfold Runs
  rw [wp_ret]; imodintro
  iapply Hk
  isplitl [HX]; · iexact HX
  isplitl [HI]; · iexact HI
  isplitl [HG]; · iexact HG
  isplitl [HB]; · iexact HB
  iexact HW

/-- its products, and the first of them leaves; -/
theorem part7 (w₁) {Q} :
    iprop(Env m c ∗ R m K c 2 0 ∗ accHole (F := F) c (gRow c 2) 256)
      ⊢ iprop((∀ r, (Env m c ∗ R m K c 3 0 ∗ accP m c (rsJ 3)) -∗ Q r)
        -∗ Runs c (onBufs (k0_part7 (F := F)) c (wd c) w₁ (rows 256 (XB m c) (gRow c 2)) (k0_pay9 (rows 256 (IX m c) (gRow c 2))) (k0_pay10 (rows 256 (GT m c) (gRow c 2)) (rows 256 (X m c) (gRow c 2))) (k0_pay11 (F := F)) (k0_pay12 (wd c) (rows 256 (IX m c) (gRow c 2)) (rows 256 (GT m c) (gRow c 2)) (rows 256 (X m c) (gRow c 2))) (k0_pay13 (wd c) (rows 256 (IX m c) (gRow c 2)) (rows 256 (GT m c) (gRow c 2)) (rows 256 (X m c) (gRow c 2))) (k0_pay14 (wd c) (rows 256 (IX m c) (gRow c 2)) (rows 256 (GT m c) (gRow c 2)) (rows 256 (X m c) (gRow c 2))) (Scalar.muli (wd c) 4#32)) Q) := by
  simp only [onBufs, k0_part7_eq_skeleton]
  unfold k0_part7_skel
  simp only [semSignalWord, semWaitWord, Prog.lift, Prog.bind_op, Prog.bind_ret, Prog.pure_eq_ret]
  unfold Env
  iintro ⟨⟨HX, HI, HG, HB, HW⟩, HR, HA⟩ Hk
  iapply (any_load c (Memref.whole cc0_scratch6) (Memref.readAt_unit_zero (Elt F) cc0_scratch6 zero2 _ _)) $$ HW; iintro HW
  iapply (acc_dead c ((off3_eq c).2.1)) $$ HA; iintro %v HA
  iapply (acc_store c ((off3_eq c).2.1) (AB m c) (AB_pair m c 2 (by decide) (by decide)).symm) $$ HA; iintro HA
  ihave HA := (show _ ⊢ iprop(accP m c (rsJ 2) ∗ accP m c (rsJ 3)) from acc_pair m c 2 (by decide) (by decide) (by decide)) $$ HA
  icases HA with ⟨HA, HA'⟩
  iapply (rs_send m K c 2 (by decide) ((off4_eq c).2.1) rfl (dev10_eq c) rfl rfl) $$ [HR HA]
  · isplitl [HR] <;> iassumption
  iintro HR
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  isplitl [HR]; · iexact HR
  iexact HA'

/-- then the second; the last pair is read; -/
theorem part8 (w₁ w₂ w₃) {Q} :
    iprop(Env m c ∗ R m K c 3 0 ∗ accP m c (rsJ 3))
      ⊢ iprop((∀ w w', (Env m c ∗ R m K c 4 0) -∗ Q ⟨w, w', (rows 256 (XB m c) (gRow c 4)), (k0_pay16 (rows 256 (IX m c) (gRow c 4))), (k0_pay17 (rows 256 (GT m c) (gRow c 4)) (rows 256 (X m c) (gRow c 4))), (k0_pay18 (F := F)), (Scalar.muli (wd c) 4#32), 0#32⟩)
        -∗ Runs c (onBufs (k0_part8 (F := F)) c (wd c) w₁ w₂ w₃) Q) := by
  simp only [onBufs, k0_part8_eq_skeleton]
  unfold k0_part8_skel
  simp only [semSignalWord, semWaitWord, Prog.lift, Prog.bind_op, Prog.bind_ret, Prog.pure_eq_ret]
  unfold Env
  iintro ⟨⟨HX, HI, HG, HB, HW⟩, HR, HA⟩ Hk
  iapply (rs_send m K c 3 (by decide) ((off4_eq c).2.2.1) rfl (dev11_eq c) rfl rfl) $$ [HR HA]
  · isplitl [HR] <;> iassumption
  iintro HR
  iapply (row_load c (Memref.whole cc0_scratch5) (f := XB m c) (x := XB m c) rfl ((off1_eq c).2.2)) $$ HB; iintro HB
  iapply (row_load c (Memref.whole cc0_stg2_0) (f := IX m c) (x := IX m c) rfl ((off2_eq c).2.2)) $$ HI; iintro HI
  iapply (row_load c (Memref.whole cc0_scratch3) (f := GT m c) (x := GT m c) rfl ((off2_eq c).2.2)) $$ HG; iintro HG
  iapply (row_load c (Memref.whole cc0_stg0_0) (f := X m c) (x := X m c) rfl ((off1_eq c).2.2)) $$ HX; iintro HX
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  iexact HR

/-- its products; -/
theorem part9 (w₁) {Q} :
    iprop(Env m c ∗ accHole (F := F) c (gRow c 4) 256)
      ⊢ iprop((∀ r, (Env m c ∗ accP m c (rsJ 4) ∗ accP m c (rsJ 5)) -∗ Q r)
        -∗ Runs c (onBufs (k0_part9 (F := F)) c (wd c) w₁ (rows 256 (XB m c) (gRow c 4)) (k0_pay16 (rows 256 (IX m c) (gRow c 4))) (k0_pay17 (rows 256 (GT m c) (gRow c 4)) (rows 256 (X m c) (gRow c 4))) (k0_pay18 (F := F)) (Scalar.muli (wd c) 4#32) 0#32) Q) := by
  simp only [onBufs, k0_part9_eq_skeleton]
  unfold k0_part9_skel
  simp only [semSignalWord, semWaitWord, Prog.lift, Prog.bind_op, Prog.bind_ret, Prog.pure_eq_ret]
  unfold Env
  iintro ⟨⟨HX, HI, HG, HB, HW⟩, HA⟩ Hk
  iapply (any_load c (Memref.whole cc0_scratch6) (Memref.readAt_unit_zero (Elt F) cc0_scratch6 zero2 _ _)) $$ HW; iintro HW
  iapply (acc_dead c ((off3_eq c).2.2)) $$ HA; iintro %v HA
  iapply (acc_store c ((off3_eq c).2.2) (AB m c) (AB_pair m c 4 (by decide) (by decide)).symm) $$ HA; iintro HA
  ihave HA := (show _ ⊢ iprop(accP m c (rsJ 4) ∗ accP m c (rsJ 5)) from acc_pair m c 4 (by decide) (by decide) (by decide)) $$ HA
  icases HA with ⟨HA, HA'⟩
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  isplitl [HA]; · iexact HA
  iexact HA'

/-- they leave; the chunk for partner 1 is read; -/
theorem part10 (w₁ w₂ w₃) {Q} :
    iprop(Env m c ∗ R m K c 4 0 ∗ accP m c (rsJ 4) ∗ accP m c (rsJ 5))
      ⊢ iprop((∀ w w', (Env m c ∗ R m K c 6 0) -∗ Q ⟨w, w', (rows 128 (XB m c) (cRow c 1)), (rows 128 (IX m c) (cRow c 1))⟩)
        -∗ Runs c (onBufs (k0_part10 (F := F)) c w₁ w₂ w₃) Q) := by
  simp only [onBufs, k0_part10_eq_skeleton]
  unfold k0_part10_skel
  simp only [semSignalWord, semWaitWord, Prog.lift, Prog.bind_op, Prog.bind_ret, Prog.pure_eq_ret]
  unfold Env
  iintro ⟨⟨HX, HI, HG, HB, HW⟩, HR, HA, HA'⟩ Hk
  iapply (rs_send m K c 4 (by decide) ((off4_eq c).2.2.2.1) rfl (dev12_eq c) rfl rfl) $$ [HR HA]
  · isplitl [HR] <;> iassumption
  iintro HR
  iapply (rs_send m K c 5 (by decide) ((off4_eq c).2.2.2.2.1) rfl (dev13_eq c) rfl rfl) $$ [HR HA']
  · isplitl [HR] <;> iassumption
  iintro HR
  iapply (row_load c (Memref.whole cc0_scratch5) (f := XB m c) (x := XB m c) rfl ((off5_eq c).1)) $$ HB; iintro HB
  iapply (row_load c (Memref.whole cc0_stg2_0) (f := IX m c) (x := IX m c) rfl ((off5_eq c).2.1)) $$ HI; iintro HI
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  iexact HR

/-- its products, -/
theorem part11 (w₁) {Q} :
    iprop(Env m c ∗ accHole (F := F) c (cRow c 1) 128)
      ⊢ iprop(((Env m c ∗ accHole (F := F) c (cRow c 1) 128) -∗ Q (k0_pay20 (wd c) (rows 128 (XB m c) (cRow c 1)) (rows 128 (IX m c) (cRow c 1)) (rows 128 (GT m c) (cRow c 1)) (rows 128 (X m c) (cRow c 1)) (WC m c)))
        -∗ Runs c (onBufs (k0_part11 (F := F)) c (wd c) w₁ (rows 128 (XB m c) (cRow c 1)) (rows 128 (IX m c) (cRow c 1))) Q) := by
  simp only [onBufs, k0_part11_eq_skeleton]
  unfold k0_part11_skel
  simp only [semSignalWord, semWaitWord, Prog.lift, Prog.bind_op, Prog.bind_ret, Prog.pure_eq_ret]
  unfold Env
  iintro ⟨⟨HX, HI, HG, HB, HW⟩, HA⟩ Hk
  iapply (row_load c (Memref.whole cc0_scratch3) (f := GT m c) (x := GT m c) rfl ((off5_eq c).2.1)) $$ HG; iintro HG
  iapply (row_load c (Memref.whole cc0_stg0_0) (f := X m c) (x := X m c) rfl ((off5_eq c).1)) $$ HX; iintro HX
  iapply (any_load c (Memref.whole cc0_scratch6) (Memref.readAt_unit_zero (Elt F) cc0_scratch6 zero2 _ _)) $$ HW; iintro HW
  iapply (acc_dead c ((off5_eq c).2.2)) $$ HA; iintro %v HA
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  iexact HA

/-- which are stored and leave; the device's own chunk is read; -/
theorem part12 (w₁) {Q} :
    iprop(Env m c ∗ R m K c 6 0 ∗ accHole (F := F) c (cRow c 1) 128)
      ⊢ iprop((∀ w w', (Env m c ∗ R m K c 7 0) -∗ Q ⟨w, w', (rows 128 (XB m c) (cRow c 0)), (k0_pay22 (rows 128 (IX m c) (cRow c 0))), (k0_pay23 (rows 128 (GT m c) (cRow c 0)) (rows 128 (X m c) (cRow c 0))), (k0_pay24 (F := F)), (k0_pay25 (wd c))⟩)
        -∗ Runs c (onBufs (k0_part12 (F := F)) c (wd c) w₁ (k0_pay20 (wd c) (rows 128 (XB m c) (cRow c 1)) (rows 128 (IX m c) (cRow c 1)) (rows 128 (GT m c) (cRow c 1)) (rows 128 (X m c) (cRow c 1)) (WC m c))) Q) := by
  simp only [onBufs, k0_part12_eq_skeleton]
  unfold k0_part12_skel
  simp only [semSignalWord, semWaitWord, Prog.lift, Prog.bind_op, Prog.bind_ret, Prog.pure_eq_ret]
  unfold Env
  iintro ⟨⟨HX, HI, HG, HB, HW⟩, HR, HA⟩ Hk
  iapply (acc_store c ((off5_eq c).2.2) (AB m c) (AB_one m c).symm) $$ HA; iintro HA
  ihave HA := (show (accL c ↦[rws (cRow c 1) 128]{fullShare} AB m c) ⊢ accP m c (rsJ 6) from BI.Entails.refl _) $$ HA
  iapply (rs_send m K c 6 (by decide) ((off4_eq c).1) rfl (dev14_eq c) rfl rfl) $$ [HR HA]
  · isplitl [HR] <;> iassumption
  iintro HR
  iapply (row_load c (Memref.whole cc0_scratch5) (f := XB m c) (x := XB m c) rfl ((off8_eq c).1)) $$ HB; iintro HB
  iapply (row_load c (Memref.whole cc0_stg2_0) (f := IX m c) (x := IX m c) rfl ((off8_eq c).2.1)) $$ HI; iintro HI
  iapply (row_load c (Memref.whole cc0_scratch3) (f := GT m c) (x := GT m c) rfl ((off8_eq c).2.1)) $$ HG; iintro HG
  iapply (row_load c (Memref.whole cc0_stg0_0) (f := X m c) (x := X m c) rfl ((off8_eq c).1)) $$ HX; iintro HX
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  iexact HR

/-- its products, not rounded. -/
theorem part13 (w₁ w₂) {Q} :
    iprop(Env m c ∗ Some' c cc0_scratch0)
      ⊢ iprop(((Env m c ∗ Some' c cc0_scratch0) -∗ Q (AC m c))
        -∗ Runs c (onBufs (k0_part13 (F := F)) c (wd c) w₁ w₂ (rows 128 (XB m c) (cRow c 0)) (k0_pay22 (rows 128 (IX m c) (cRow c 0))) (k0_pay23 (rows 128 (GT m c) (cRow c 0)) (rows 128 (X m c) (cRow c 0))) (k0_pay24 (F := F)) (k0_pay25 (wd c))) Q) := by
  simp only [onBufs, k0_part13_eq_skeleton]
  unfold k0_part13_skel
  simp only [semSignalWord, semWaitWord, Prog.lift, Prog.bind_op, Prog.bind_ret, Prog.pure_eq_ret]
  unfold Env AC
  iintro ⟨⟨HX, HI, HG, HB, HW⟩, ⟨%f, HA⟩⟩ Hk
  iapply (any_load c (Memref.whole cc0_scratch6) (Memref.readAt_unit_zero (Elt F) cc0_scratch6 zero2 _ _)) $$ HW; iintro HW
  iapply (any_load c (Memref.whole cc0_scratch0) rfl) $$ HA; iintro HA
  iapply (any_store c (Memref.whole cc0_scratch0) rfl) $$ HA; iintro HA
  iapply (back_load c (Memref.whole cc0_scratch0)) $$ HA; iintro HA
  unfold Runs
  rw [wp_ret]; imodintro
  iapply Hk
  isplitl [HX HI HG HB HW]
  · isplitl [HX]; · iexact HX
    isplitl [HI]; · iexact HI
    isplitl [HG]; · iexact HG
    isplitl [HB]; · iexact HB
    iexact HW
  iexists _; iexact HA

/-! ## The sum -/

/-- Three parts come in and are added, -/
theorem part14 (w₁ w₂ w₃) {Q} :
    R m K c 7 0
      ⊢ iprop((∀ w, R m K c 7 3 -∗ Q ⟨(k0_pay27 (AC m c) (RBs m c 5) (RBs m c 6) (RBs m c 1)), w⟩)
        -∗ Runs c (onBufs (k0_part14 (F := F)) c w₁ w₂ w₃ (AC m c)) Q) := by
  simp only [onBufs, k0_part14_eq_skeleton]
  unfold k0_part14_skel
  simp only [semSignalWord, semWaitWord, Prog.lift, Prog.bind_op, Prog.bind_ret, Prog.pure_eq_ret]
  iintro HR Hk
  iapply (rs_recv m K c 0 (by decide) rfl) $$ HR; iintro HR
  iapply (rb_load m K c 0 (by decide) 5 rfl rfl) $$ HR; iintro HR
  iapply (rs_recv m K c 1 (by decide) rfl) $$ HR; iintro HR
  iapply (rb_load m K c 1 (by decide) 6 rfl rfl) $$ HR; iintro HR
  iapply (rs_recv m K c 2 (by decide) rfl) $$ HR; iintro HR
  iapply (rb_load m K c 2 (by decide) 1 rfl rfl) $$ HR; iintro HR
  unfold Runs
  rw [wp_ret]; imodintro
  iapply Hk $$ HR

/-- three more, the third of which is still to be added. -/
theorem part15 (w₁ w₂ w₃) {Q} :
    R m K c 7 3
      ⊢ iprop((R m K c 7 6 -∗ Q (k0_pay28 (k0_pay27 (AC m c) (RBs m c 5) (RBs m c 6) (RBs m c 1)) (RBs m c 2) (RBs m c 3)))
        -∗ Runs c (onBufs (k0_part15 (F := F)) c w₁ w₂ (k0_pay27 (AC m c) (RBs m c 5) (RBs m c 6) (RBs m c 1)) w₃) Q) := by
  simp only [onBufs, k0_part15_eq_skeleton]
  unfold k0_part15_skel
  simp only [semSignalWord, semWaitWord, Prog.lift, Prog.bind_op, Prog.bind_ret, Prog.pure_eq_ret]
  iintro HR Hk
  iapply (rs_recv m K c 3 (by decide) rfl) $$ HR; iintro HR
  iapply (rb_load m K c 3 (by decide) 2 rfl rfl) $$ HR; iintro HR
  iapply (rs_recv m K c 4 (by decide) rfl) $$ HR; iintro HR
  iapply (rb_load m K c 4 (by decide) 3 rfl rfl) $$ HR; iintro HR
  iapply (rs_recv m K c 5 (by decide) rfl) $$ HR; iintro HR
  unfold Runs
  rw [wp_ret]; imodintro
  iapply Hk $$ HR

end Cert.KernelIdeal.Moe

end
-- ==== Proof.PartsE.lean ====
/-
# The end of the body, part by part

How the sum becomes the start of the all-gather, and the waits for the transfers this device sent.
-/
module

public import proofs.«01_k».proof.Proof.PartsR

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ) (c : Dev nD)

/-! ## The start of the all-gather -/

theorem own_rows : pRow c 0 = cRow c 0 ∧ pRow c 1 = cRow c 0 + 48 ∧ pRow c 2 = cRow c 0 + 96 ∧ pLen 0 = 48 ∧ pLen 1 = 48 ∧ pLen 2 = 32 := by
  revert c; decide

/-- The device's own chunk is its first three pieces. -/
theorem own_pieces : (stL c ↦[rws (cRow c 0) 128]{fullShare} (SG m : Buf (Elt F) (stL c)) : sProp 𝕄)
    ⊢ iprop(Piece m c 0 fullShare ∗ Piece m c 1 fullShare ∗ Piece m c 2 fullShare) := by
  obtain ⟨h0, h1, h2, l0, l1, l2⟩ := own_rows c
  unfold Piece
  rw [h0, h1, h2, l0, l1, l2]
  have hs : rws (cRow c 0) 128 = rws (cRow c 0) 48 ∪ (rws (cRow c 0 + 48) 48 ∪ rws (cRow c 0 + 96) 32) := by
    ext i; rw [Finset.mem_union, Finset.mem_union, mem_rws, mem_rws, mem_rws, mem_rws]; omega
  have hd : Disjoint (rws (cRow c 0) 48) (rws (cRow c 0 + 48) 48 ∪ rws (cRow c 0 + 96) 32) := by
    rw [Finset.disjoint_left]; intro i; rw [Finset.mem_union, mem_rws, mem_rws, mem_rws]; omega
  have hd' : Disjoint (rws (cRow c 0 + 48) 48) (rws (cRow c 0 + 96) 32) := by
    rw [Finset.disjoint_left]; intro i; rw [mem_rws, mem_rws]; omega
  rw [hs]
  exact (pointsTo_union hd).1.trans (BI.sep_mono (BI.Entails.refl _) (pointsTo_union hd').1)

/-- What is left of the transfers sent in the reduce-scatter when `n` of them have been waited for. -/
def RW' (n : ℕ) : sProp 𝕄 := iprop(bigSep (Finset.Ico n 7) (rsPend (F := F) c) ∗ bigSep (Finset.range n) (rsDone m c))

theorem G_start : iprop(Ctx m K ∗ Ow c 14 ∗ bigSep (Finset.Ico 0 21) (agTodo (F := F) c) ∗ bigSep (Finset.Ico 0 21) (agWait (F := F) c) ∗ OutInv m c 0
      ∗ (stL c ↦[rws (cRow c 0) 128]{fullShare} (SG m : Buf (Elt F) (stL c))))
    ⊢ G m K c 0 0 0 0 := by
  have e : iprop(Reads m c 3 ∗ Outs m c 0 0 3) = iprop(Piece m c 2 fullShare ∗ Piece m c 1 fullShare ∗ Piece m c 0 fullShare ∗ emp ∗ emp) := by
    rw [Outs_recv m c (fun i hi => absurd hi (Nat.not_lt_zero i)), Outs_recv m c (fun i hi => absurd hi (Nat.not_lt_zero i)), Outs_recv m c (fun i hi => absurd hi (Nat.not_lt_zero i))]
    unfold Reads Outs
    rw [Finset.range_zero, bigSep_empty, bigSep_empty]
    rfl
  iintro ⟨HC, HO, HT, HW, HI, HS⟩
  ihave HS := (own_pieces m c) $$ HS
  icases HS with ⟨H0, H1, H2⟩
  ihave HRO := (Entails.of_eq e.symm) $$ [H0 H1 H2]
  · isplitl [H2]; · iexact H2
    isplitl [H1]; · iexact H1
    isplitl [H0]; · iexact H0
    isplitl <;> iempintro
  icases HRO with ⟨HR, HOut⟩
  unfold G
  isplitl [HC]; · iexact HC
  isplitl [HO]; · iexact HO
  isplitl [HT]; · iexact HT
  isplitr
  · rw [Finset.Ico_self, bigSep_empty]; iempintro
  isplitr
  · rw [Finset.range_zero, bigSep_empty]; iempintro
  isplitl [HW]; · iexact HW
  isplitr
  · rw [Finset.range_zero, bigSep_empty]; iempintro
  isplitl [HR]; · iexact HR
  isplitl [HOut]; · iexact HOut
  iexact HI

/-- The last part comes in, the sum is complete, rounded and stored, and the first transfer of it starts. -/
theorem part16 (w₁ w₂ w₃ w₄) {Q} :
    iprop(R m K c 7 6 ∗ Hole (F := F) c (cRow c 0) 128 ∗ bigSep (Finset.Ico 0 21) (agTodo (F := F) c) ∗ bigSep (Finset.Ico 0 21) (agWait (F := F) c) ∗ OutInv m c 0)
      ⊢ iprop((∀ r, (G m K c 1 0 0 0 ∗ RW' m c 0 ∗ bigSep (Finset.range 7) (rsGot m c)) -∗ Q r)
        -∗ Runs c (onBufs (k0_part16 (F := F)) c w₁ w₂ w₃ w₄ (k0_pay28 (k0_pay27 (AC m c) (RBs m c 5) (RBs m c 6) (RBs m c 1)) (RBs m c 2) (RBs m c 3))) Q) := by
  simp only [onBufs, k0_part16_eq_skeleton]
  unfold k0_part16_skel
  simp only [Prog.lift, Prog.bind_op, Prog.bind_ret, Prog.pure_eq_ret]
  iintro ⟨HR, HS, HT, HW, HI⟩ Hk
  iapply (rb_load m K c 5 (by decide) 4 rfl rfl) $$ HR; iintro HR
  iapply (rs_recv m K c 6 (by decide) rfl) $$ HR; iintro HR
  iapply (rb_load m K c 6 (by decide) 0 rfl rfl) $$ HR; iintro HR
  iapply (st_dead c (off8_eq c).2.2) $$ HS; iintro %v HS
  iapply (st_store c (off8_eq c).2.2 (SG m) (SG_own m c).symm) $$ HS; iintro HS
  unfold R
  icases HR with ⟨HC, HO, -, HP, -, HG⟩
  ihave HA := (G_start m K c) $$ [HC HO HT HW HI HS]
  · isplitl [HC]; · iexact HC
    isplitl [HO]; · iexact HO
    isplitl [HT]; · iexact HT
    isplitl [HW]; · iexact HW
    isplitl [HI]; · iexact HI
    iexact HS
  iapply (ag_send m K c 0 (by decide) (by decide) (by decide) (n := 48) rfl ((off11_eq c).1) (dev15_eq c) rfl rfl) $$ HA; iintro HA
  unfold Runs
  rw [wp_ret]; imodintro
  iapply Hk
  isplitl [HA]; · iexact HA
  isplitl [HP]
  · unfold RW'
    isplitl [HP]; · iexact HP
    rw [Finset.range_zero, bigSep_empty]; iempintro
  iexact HG

/-! ## The waits at the end -/

/-- The wait for the chunk sent to partner `rsJ i`. -/
theorem rs_wait {nw nc : ℕ} (i : ℕ) (hi : i < 7) {sem : DmaSem sig} (hS : SemLoc.dma sem = smk (rsJ i))
    {off : Fin 2 → ℕ} {inb : ∀ a, off a + S128x512.size a ≤ S1024x512.size a} {hr}
    {sp : Space} {s : Shape} {e : EltTy} {src : Memref sig .tc sp s e} {hsrc} {hdst} {α : Type} {kk : PUnit → CoreProg F α} {Q : α → sProp 𝕄} :
    iprop(G m K c 21 21 nw nc ∗ RW' m c i)
      ⊢ iprop(((G m K c 21 21 nw nc ∗ RW' m c (i + 1)) -∗ Runs c (kk ⟨⟩) Q)
          -∗ Runs c (.op (.waitDma2 sem src (accM.slice (Rect.unit (s := S1024x512) off S128x512.size inb) hr) hsrc hdst) kk) Q) := by
  obtain ⟨hj, hj'⟩ := rsJ_bd i hi
  unfold G RW'
  rw [bigSep_Ico_succ_bot hi]
  unfold rsPend
  iintro ⟨⟨#HC, HO, HG⟩, ⟨⟨Hat, Hc⟩, HP⟩, HD⟩ Hk
  have hp : payK m c (rsJ i) 0 = accP m c (rsJ i) := by unfold payK; rw [if_neg (by omega), if_pos hj']
  iapply (cell_wait m K c (k := rsJ i) (n := 35) (by omega) (by omega) (fun i h1 h2 => absurd h1 (by omega)) hS ((accS_credit inb hr).trans (amt_rs (by omega) (by omega)).symm)) $$ [HO Hat Hc]
  · isplitr; · iexact HC
    isplitl [HO]; · iexact HO
    isplitl [Hat] <;> iassumption
  iintro ⟨HO, Hp, Hz⟩
  ihave Hp := (Entails.of_eq hp) $$ Hp
  iapply Hk
  isplitl [HO HG]
  · isplitr; · iexact HC
    isplitl [HO]; · iexact HO
    iexact HG
  isplitl [HP]; · iexact HP
  rw [bigSep_range_succ]
  isplitl [Hz Hp]
  · unfold rsDone
    isplitl [Hz] <;> iassumption
  iexact HD

/-- The last three pieces are widened; two chunks are back; -/
theorem part37 (w₁ w₂) {Q} :
    iprop(G m K c 21 21 0 21 ∗ RW' m c 0) ⊢ iprop((∀ r, (G m K c 21 21 0 24 ∗ RW' m c 2) -∗ Q r) -∗ Runs c (onBufs (k0_part37 (F := F)) c w₁ w₂) Q) := by
  simp only [onBufs, k0_part37_eq_skeleton]
  unfold k0_part37_skel
  simp only [Prog.lift, Prog.bind_op, Prog.bind_ret, Prog.pure_eq_ret]
  iintro ⟨HG, HR⟩ Hk
  iapply (cv_step m K c 21 (by decide) (n := 32) rfl ((off16_eq c).2.2.2.2.2.2.1) (pay := k0_pay51) rfl) $$ HG; iintro HG
  iapply (cv_step m K c 22 (by decide) (n := 32) rfl ((off16_eq c).2.2.2.1) (pay := k0_pay52) rfl) $$ HG; iintro HG
  iapply (cv_step m K c 23 (by decide) (n := 32) rfl ((off16_eq c).2.2.2.2.2.2.2) (pay := k0_pay53) rfl) $$ HG; iintro HG
  iapply (rs_wait m K c 0 (by decide) rfl) $$ [HG HR]
  · isplitl [HG] <;> iassumption
  iintro ⟨HG, HR⟩
  iapply (rs_wait m K c 1 (by decide) rfl) $$ [HG HR]
  · isplitl [HG] <;> iassumption
  iintro ⟨HG, HR⟩
  iapply (part_done c (S := iprop(G m K c 21 21 0 24 ∗ RW' m c 2))) $$ [HG HR]
  · isplitl [HG] <;> iassumption
  iexact Hk

/-- four more; -/
theorem part38 {Q} :
    iprop(G m K c 21 21 0 24 ∗ RW' m c 2) ⊢ iprop((∀ r, (G m K c 21 21 0 24 ∗ RW' m c 6) -∗ Q r) -∗ Runs c (onBufs (k0_part38 (F := F)) c) Q) := by
  simp only [onBufs, k0_part38_eq_skeleton]
  unfold k0_part38_skel
  simp only [Prog.lift, Prog.bind_op, Prog.bind_ret, Prog.pure_eq_ret]
  iintro ⟨HG, HR⟩ Hk
  iapply (rs_wait m K c 2 (by decide) rfl) $$ [HG HR]
  · isplitl [HG] <;> iassumption
  iintro ⟨HG, HR⟩
  iapply (rs_wait m K c 3 (by decide) rfl) $$ [HG HR]
  · isplitl [HG] <;> iassumption
  iintro ⟨HG, HR⟩
  iapply (rs_wait m K c 4 (by decide) rfl) $$ [HG HR]
  · isplitl [HG] <;> iassumption
  iintro ⟨HG, HR⟩
  iapply (rs_wait m K c 5 (by decide) rfl) $$ [HG HR]
  · isplitl [HG] <;> iassumption
  iintro ⟨HG, HR⟩
  iapply (part_done c (S := iprop(G m K c 21 21 0 24 ∗ RW' m c 6))) $$ [HG HR]
  · isplitl [HG] <;> iassumption
  iexact Hk

/-- the last, and five transfers of the all-gather; -/
theorem part39 {Q} :
    iprop(G m K c 21 21 0 24 ∗ RW' m c 6) ⊢ iprop((∀ r, (G m K c 21 21 5 24 ∗ RW' m c 7) -∗ Q r) -∗ Runs c (onBufs (k0_part39 (F := F)) c) Q) := by
  simp only [onBufs, k0_part39_eq_skeleton]
  unfold k0_part39_skel
  simp only [Prog.lift, Prog.bind_op, Prog.bind_ret, Prog.pure_eq_ret]
  iintro ⟨HG, HR⟩ Hk
  iapply (rs_wait m K c 6 (by decide) rfl) $$ [HG HR]
  · isplitl [HG] <;> iassumption
  iintro ⟨HG, HR⟩
  iapply (ag_wait m K c 0 (by decide) rfl (n := 48) rfl) $$ HG; iintro HG
  iapply (ag_wait m K c 1 (by decide) rfl (n := 48) rfl) $$ HG; iintro HG
  iapply (ag_wait m K c 2 (by decide) rfl (n := 48) rfl) $$ HG; iintro HG
  iapply (ag_wait m K c 3 (by decide) rfl (n := 48) rfl) $$ HG; iintro HG
  iapply (ag_wait m K c 4 (by decide) rfl (n := 48) rfl) $$ HG; iintro HG
  iapply (part_done c (S := iprop(G m K c 21 21 5 24 ∗ RW' m c 7))) $$ [HG HR]
  · isplitl [HG] <;> iassumption
  iexact Hk

/-- six more; -/
theorem part40 {Q} :
    iprop(G m K c 21 21 5 24 ∗ RW' m c 7) ⊢ iprop((∀ r, (G m K c 21 21 11 24 ∗ RW' m c 7) -∗ Q r) -∗ Runs c (onBufs (k0_part40 (F := F)) c) Q) := by
  simp only [onBufs, k0_part40_eq_skeleton]
  unfold k0_part40_skel
  simp only [Prog.lift, Prog.bind_op, Prog.bind_ret, Prog.pure_eq_ret]
  iintro ⟨HG, HR⟩ Hk
  iapply (ag_wait m K c 5 (by decide) rfl (n := 48) rfl) $$ HG; iintro HG
  iapply (ag_wait m K c 6 (by decide) rfl (n := 32) rfl) $$ HG; iintro HG
  iapply (ag_wait m K c 7 (by decide) rfl (n := 32) rfl) $$ HG; iintro HG
  iapply (ag_wait m K c 8 (by decide) rfl (n := 32) rfl) $$ HG; iintro HG
  iapply (ag_wait m K c 9 (by decide) rfl (n := 48) rfl) $$ HG; iintro HG
  iapply (ag_wait m K c 10 (by decide) rfl (n := 48) rfl) $$ HG; iintro HG
  iapply (part_done c (S := iprop(G m K c 21 21 11 24 ∗ RW' m c 7))) $$ [HG HR]
  · isplitl [HG] <;> iassumption
  iexact Hk

/-- six more. -/
theorem part41 {Q} :
    iprop(G m K c 21 21 11 24 ∗ RW' m c 7) ⊢ iprop((∀ r, (G m K c 21 21 17 24 ∗ RW' m c 7) -∗ Q r) -∗ Runs c (onBufs (k0_part41 (F := F)) c) Q) := by
  simp only [onBufs, k0_part41_eq_skeleton]
  unfold k0_part41_skel
  simp only [Prog.lift, Prog.bind_op, Prog.bind_ret, Prog.pure_eq_ret]
  iintro ⟨HG, HR⟩ Hk
  iapply (ag_wait m K c 11 (by decide) rfl (n := 48) rfl) $$ HG; iintro HG
  iapply (ag_wait m K c 12 (by decide) rfl (n := 48) rfl) $$ HG; iintro HG
  iapply (ag_wait m K c 13 (by decide) rfl (n := 32) rfl) $$ HG; iintro HG
  iapply (ag_wait m K c 14 (by decide) rfl (n := 32) rfl) $$ HG; iintro HG
  iapply (ag_wait m K c 15 (by decide) rfl (n := 48) rfl) $$ HG; iintro HG
  iapply (ag_wait m K c 16 (by decide) rfl (n := 48) rfl) $$ HG; iintro HG
  iapply (part_done c (S := iprop(G m K c 21 21 17 24 ∗ RW' m c 7))) $$ [HG HR]
  · isplitl [HG] <;> iassumption
  iexact Hk

end Cert.KernelIdeal.Moe

end
-- ==== Proof.Body.lean ====
/-
# The body of the kernel

The parts one after another, from what a device has at its start to what it has at its end.
-/
module

public import proofs.«01_k».proof.Proof.PartsE

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ) (c : Dev nD)

/-! ## The landing places the barrier brings -/

omit [FloatOps F] in
/-- A family in groups. -/
theorem bigSep_groups {I J : Type} [DecidableEq I] [DecidableEq J] (s : Finset I) (f : I → J) (T : Finset J) (Φ : I → sProp 𝕄) :
    (bigSep T fun j => bigSep (s.filter fun i => f i = j) Φ) = bigSep (s.filter fun i => f i ∈ T) Φ := by
  induction T using Finset.induction_on with
  | empty =>
    rw [bigSep_empty, Finset.filter_false_of_mem (fun i _ => Finset.notMem_empty _), bigSep_empty]
  | insert a T ha ih =>
    rw [bigSep_insert ha, ih]
    have hd : Disjoint (s.filter fun i => f i = a) (s.filter fun i => f i ∈ T) := by
      rw [Finset.disjoint_filter]; rintro i - rfl; exact ha
    have hu : (s.filter fun i => f i ∈ insert a T) = (s.filter fun i => f i = a) ∪ s.filter fun i => f i ∈ T := by
      rw [← Finset.filter_or]; exact Finset.filter_congr fun i _ => Finset.mem_insert
    rw [hu]
    exact (bigSep_union hd).symm

/-- The place where transfer `i` of the reduce-scatter lands, -/
def rsHole (i : ℕ) : sProp 𝕄 := rbHole (F := F) (xr c (rsJ i)) (rsJ i - 1)
/-- and where transfer `i` of the all-gather does. -/
def agHole (i : ℕ) : sProp 𝕄 := Hole (F := F) (xr c (agM i)) (pRow c (agP i)) (pLen (agP i))

/-- What comes with the barrier is the landing places of all transfers. -/
theorem bar_holes : bigSep (Finset.Ico 1 8) (barPay (F := F) c) = iprop(bigSep (Finset.Ico 0 7) (rsHole (F := F) c) ∗ bigSep (Finset.Ico 0 21) (agHole (F := F) c)) := by
  unfold barPay
  rw [bigSep_sep']
  have e1 : (bigSep (Finset.Ico 1 8) fun j => rbHole (F := F) (xr c j) (j - 1)) = bigSep (Finset.Ico 0 7) (rsHole (F := F) c) := by
    rw [show Finset.Ico 1 8 = (Finset.Ico 0 7).image rsJ by decide]
    refine bigSep_image_of_injOn ?_ _
    have key : ∀ a ∈ Finset.Ico 0 7, ∀ b ∈ Finset.Ico 0 7, rsJ a = rsJ b → a = b := by decide
    exact fun a ha b hb h => key a ha b hb h
  have e2 : (bigSep (Finset.Ico 1 8) fun j => bigSep ((Finset.range 21).filter fun i => agM i = j) fun i => Hole (F := F) (xr c j) (pRow c (agP i)) (pLen (agP i)))
      = bigSep (Finset.Ico 0 21) (agHole (F := F) c) := by
    rw [bigSep_congr (Ψ := fun j => bigSep ((Finset.range 21).filter fun i => agM i = j) (agHole (F := F) c)) fun j _ => bigSep_congr fun i hi => by
      unfold agHole; rw [(Finset.mem_filter.mp hi).2]]
    rw [bigSep_groups, Finset.filter_true_of_mem (by decide), Finset.range_eq_Ico]
  rw [e1, e2]

/-! ## Start and end -/

/-- The tokens and the position for a transfer of the reduce-scatter, -/
def rsTok (i : ℕ) : sProp 𝕄 :=
  iprop(dutyTok ER (kcell c (rsJ i)) 0 0 ∗ dutyTok ER (kcell (xr c (rsJ i)) (7 + rsJ i)) 0 0 ∗ atPos ER (kcell c (rsJ i)) 0 ∅ 0)
/-- and of the all-gather. -/
def agTok (i : ℕ) : sProp 𝕄 :=
  iprop(dutyTok ER (kcell c (15 + agI i)) 0 0 ∗ dutyTok ER (kcell (xr c (agM i)) (36 + agI i)) 0 0 ∗ atPos ER (kcell c (15 + agI i)) 0 ∅ 0)

omit [FloatOps F] in
theorem rs_todo : iprop(bigSep (Finset.Ico 0 7) (rsTok (F := F) c) ∗ bigSep (Finset.Ico 0 7) (rsHole (F := F) c)) ⊢ bigSep (Finset.Ico 0 7) (rsTodo (F := F) c) := by
  have h : ∀ i, iprop(rsTok (F := F) c i ∗ rsHole (F := F) c i) ⊢ rsTodo (F := F) c i := fun i => by
    unfold rsTok rsHole rsTodo
    iintro ⟨⟨H1, H2, H3⟩, H4⟩
    isplitl [H1]; · iexact H1
    isplitl [H2]; · iexact H2
    isplitl [H3] <;> iassumption
  rw [← bigSep_sep']
  exact bigSep_mono fun i _ => h i
omit [FloatOps F] in
theorem ag_todo : iprop(bigSep (Finset.Ico 0 21) (agTok (F := F) c) ∗ bigSep (Finset.Ico 0 21) (agHole (F := F) c)) ⊢ bigSep (Finset.Ico 0 21) (agTodo (F := F) c) := by
  have h : ∀ i, iprop(agTok (F := F) c i ∗ agHole (F := F) c i) ⊢ agTodo (F := F) c i := fun i => by
    unfold agTok agHole agTodo
    iintro ⟨⟨H1, H2, H3⟩, H4⟩
    isplitl [H1]; · iexact H1
    isplitl [H2]; · iexact H2
    isplitl [H3] <;> iassumption
  rw [← bigSep_sep']
  exact bigSep_mono fun i _ => h i

/-- The other argument buffers. -/
def Args : sProp 𝕄 := iprop(Holds c cc0_stg1_0 (RW m c) ∗ Holds c cc0_stg3_0 (EW m c) ∗ Holds c cc0_stg4_0 (SW m c))

/-- The protocol's part of what a device starts with, -/
def Start0 : sProp 𝕄 :=
  iprop(Ctx m K ∗ Ow c 0 ∗ BarTodo (F := F) c 0 ∗ atPos ER (kcell c 0) 0 ∅ 0 ∗ cred (tallyAt (kcell c 0) () 7)
    ∗ bigSep (Finset.Ico 0 7) (rsTok (F := F) c) ∗ bigSep (Finset.Ico 0 7) (rsWait (F := F) c) ∗ bigSep (Finset.Ico 0 21) (agTok (F := F) c) ∗ bigSep (Finset.Ico 0 21) (agWait (F := F) c))
/-- the buffers', -/
def Start1 : sProp 𝕄 :=
  iprop(Holds c cc0_stg0_0 (X m c) ∗ Holds c cc0_stg2_0 (IX m c) ∗ Args m c ∗ Some' (F := F) c cc0_stg5_0 ∗ Some' (F := F) c cc0_scratch0 ∗ Some' (F := F) c cc0_scratch3
    ∗ Some' (F := F) c cc0_scratch5 ∗ Some' (F := F) c cc0_scratch6
    ∗ accHole (F := F) c (gRow c 6) 256 ∗ accHole (F := F) c (gRow c 2) 256 ∗ accHole (F := F) c (gRow c 4) 256 ∗ accHole (F := F) c (cRow c 1) 128
    ∗ Hole (F := F) c (cRow c 0) 128)

/-- and what it ends with. -/
def End0 (nw : ℕ) : sProp 𝕄 :=
  iprop(G m K c 21 21 nw 24 ∗ RW' m c 7 ∗ bigSep (Finset.range 7) (rsGot m c) ∗ semVal (kcell c 0) 0 ∗ Env m c ∗ Args m c ∗ Some' (F := F) c cc0_scratch0)

theorem runs_bind {α β : Type _} {p : CoreProg F α} {k : α → CoreProg F β} {Q : β → sProp 𝕄} :
    Runs c p (fun a => Runs c (k a) Q) ⊢ Runs c (p >>= k) Q := by
  unfold Runs
  rw [wp_bind]

theorem Out_start : Some' (F := F) c cc0_stg5_0 ⊢ OutInv m c 0 := by
  unfold OutInv
  iintro ⟨%f, H⟩
  iexists f
  isplitr
  · ipureintro; exact fun j hj => absurd hj (Nat.not_lt_zero j)
  iexact H

set_option maxHeartbeats 4000000 in
/-- The parts, -/
theorem run42 {Q} : iprop(Start0 m K c ∗ Start1 m c) ⊢ iprop((End0 m K c 19 -∗ Q c) -∗ Runs c (onBufs (k0_part42 (F := F))) Q) := by
  simp only [onBufs, k0_part42_eq_skeleton]
  unfold k0_part42_skel Start0 Start1 Args
  simp only [Prog.lift]
  iintro ⟨⟨#HC, HO, HBT, Hat, Hcr, HRT, HRW, HAT, HAW⟩, HX, HI, ⟨HRw, HE, HV⟩, HOut, HS0, HG, HB, HW, HA6, HA2, HA4, HA1, HST⟩ Hk
  ihave HS : Sg m K c 0 $$ [HO HBT]
  · unfold Sg
    isplitr; · iexact HC
    isplitl [HO] <;> iassumption
  iapply (runs_bind c)
  iapply (part1 m K c) $$ HS; iintro %w1 %w2 HS
  iapply (runs_bind c)
  iapply (part2 m K c) $$ [HS HX HRw HI HG HB]
  · isplitl [HS]; · iexact HS
    isplitl [HX]; · iexact HX
    isplitl [HRw]; · iexact HRw
    isplitl [HI]; · iexact HI
    isplitl [HG]; · iexact HG
    iexact HB
  iintro ⟨HS, HX, HRw, HI, HG, HB⟩
  unfold Sg
  icases HS with ⟨-, HO, -⟩
  iapply (runs_bind c)
  iapply (part3 m K c) $$ [HO Hat Hcr HX HI HE HV HG HB HW]
  · isplitr; · iexact HC
    isplitl [HO]; · iexact HO
    isplitl [Hat]; · iexact Hat
    isplitl [Hcr]; · iexact Hcr
    isplitl [HX]; · iexact HX
    isplitl [HI]; · iexact HI
    isplitl [HE]; · iexact HE
    isplitl [HV]; · iexact HV
    isplitl [HG]; · iexact HG
    isplitl [HB]; · iexact HB
    iexact HW
  iintro %w3 ⟨HO, Hz, HP, HE, HV, HEnv⟩
  ihave HP := (Entails.of_eq (bar_holes c)) $$ HP
  icases HP with ⟨HRH, HAH⟩
  ihave HRT := (rs_todo c) $$ [HRT HRH]
  · isplitl [HRT] <;> iassumption
  ihave HAT := (ag_todo c) $$ [HAT HAH]
  · isplitl [HAT] <;> iassumption
  ihave HR : R m K c 0 0 $$ [HO HRT HRW]
  · unfold R
    isplitr; · iexact HC
    isplitl [HO]; · iexact HO
    isplitl [HRT]; · iexact HRT
    isplitr
    · rw [Finset.Ico_self, bigSep_empty]; iempintro
    isplitl [HRW]; · iexact HRW
    rw [Finset.range_zero, bigSep_empty]; iempintro
  iapply (runs_bind c)
  iapply (part4 m c) $$ [HEnv HA6]
  · isplitl [HEnv]; · iexact HEnv
    iexact HA6
  iintro %w4 %w5 %w6 ⟨HEnv, HA, HA'⟩
  iapply (runs_bind c)
  iapply (part5 m K c) $$ [HR HA HA']
  · isplitl [HR]; · iexact HR
    isplitl [HA]; · iexact HA
    iexact HA'
  iintro %r HR
  obtain ⟨r1, r2, r3⟩ := r
  iapply (runs_bind c)
  iapply (part6 m c) $$ HEnv
  iintro %w7 HEnv
  iapply (runs_bind c)
  iapply (part7 m K c) $$ [HEnv HR HA2]
  · isplitl [HEnv]; · iexact HEnv
    isplitl [HR]; · iexact HR
    iexact HA2
  iintro %r ⟨HEnv, HR, HA⟩
  obtain ⟨r4, r5, r6, r7⟩ := r
  iapply (runs_bind c)
  iapply (part8 m K c) $$ [HEnv HR HA]
  · isplitl [HEnv]; · iexact HEnv
    isplitl [HR]; · iexact HR
    iexact HA
  iintro %w8 %w9 ⟨HEnv, HR⟩
  iapply (runs_bind c)
  iapply (part9 m c) $$ [HEnv HA4]
  · isplitl [HEnv]; · iexact HEnv
    iexact HA4
  iintro %w10 ⟨HEnv, HA, HA'⟩
  iapply (runs_bind c)
  iapply (part10 m K c) $$ [HEnv HR HA HA']
  · isplitl [HEnv]; · iexact HEnv
    isplitl [HR]; · iexact HR
    isplitl [HA]; · iexact HA
    iexact HA'
  iintro %w11 %w12 ⟨HEnv, HR⟩
  iapply (runs_bind c)
  iapply (part11 m c) $$ [HEnv HA1]
  · isplitl [HEnv]; · iexact HEnv
    iexact HA1
  iintro ⟨HEnv, HA⟩
  iapply (runs_bind c)
  iapply (part12 m K c) $$ [HEnv HR HA]
  · isplitl [HEnv]; · iexact HEnv
    isplitl [HR]; · iexact HR
    iexact HA
  iintro %w13 %w14 ⟨HEnv, HR⟩
  iapply (runs_bind c)
  iapply (part13 m c) $$ [HEnv HS0]
  · isplitl [HEnv]; · iexact HEnv
    iexact HS0
  iintro ⟨HEnv, HS0⟩
  iapply (runs_bind c)
  iapply (part14 m K c) $$ HR
  iintro %w15 HR
  iapply (runs_bind c)
  iapply (part15 m K c) $$ HR
  iintro HR
  ihave HOut := (Out_start m c) $$ HOut
  iapply (runs_bind c)
  iapply (part16 m K c) $$ [HR HST HAT HAW HOut]
  · isplitl [HR]; · iexact HR
    isplitl [HST]; · iexact HST
    isplitl [HAT]; · iexact HAT
    isplitl [HAW]; · iexact HAW
    iexact HOut
  iintro %r ⟨HG, HRW, HRG⟩
  obtain ⟨r8, r9, r10⟩ := r
  iapply (runs_bind c)
  iapply (part17 m K c) $$ HG
  iintro %r HG
  obtain ⟨s17_0, s17_1, s17_2⟩ := r
  iapply (runs_bind c)
  iapply (part18 m K c) $$ HG
  iintro %r HG
  obtain ⟨s18_0, s18_1⟩ := r
  iapply (runs_bind c)
  iapply (part19 m K c) $$ HG
  iintro %r HG
  obtain ⟨s19_0, s19_1⟩ := r
  iapply (runs_bind c)
  iapply (part20 m K c) $$ HG
  iintro %r HG
  obtain ⟨s20_0, s20_1⟩ := r
  iapply (runs_bind c)
  iapply (part21 m K c) $$ HG
  iintro %r HG
  obtain ⟨s21_0, s21_1, s21_2⟩ := r
  iapply (runs_bind c)
  iapply (part22 m K c) $$ HG
  iintro %r HG
  iapply (runs_bind c)
  iapply (part23 m K c) $$ HG
  iintro %r HG
  obtain ⟨s23_0, s23_1, s23_2⟩ := r
  iapply (runs_bind c)
  iapply (part24 m K c) $$ HG
  iintro %r HG
  iapply (runs_bind c)
  iapply (part25 m K c) $$ HG
  iintro %r HG
  obtain ⟨s25_0, s25_1, s25_2, s25_3⟩ := r
  iapply (runs_bind c)
  iapply (part26 m K c) $$ HG
  iintro %r HG
  iapply (runs_bind c)
  iapply (part27 m K c) $$ HG
  iintro %r HG
  iapply (runs_bind c)
  iapply (part28 m K c) $$ HG
  iintro %r HG
  obtain ⟨s28_0, s28_1⟩ := r
  iapply (runs_bind c)
  iapply (part29 m K c) $$ HG
  iintro %x29 HG
  iapply (runs_bind c)
  iapply (part30 m K c (hw := rfl)) $$ HG
  iintro %r HG
  iapply (runs_bind c)
  iapply (part31 m K c) $$ HG
  iintro %r HG
  iapply (runs_bind c)
  iapply (part32 m K c) $$ HG
  iintro %r HG
  iapply (runs_bind c)
  iapply (part33 m K c) $$ HG
  iintro %r HG
  iapply (runs_bind c)
  iapply (part34 m K c) $$ HG
  iintro %x34 HG
  iapply (runs_bind c)
  iapply (part35 m K c (hw := rfl)) $$ HG
  iintro %r HG
  iapply (runs_bind c)
  iapply (part36 m K c) $$ HG
  iintro %r HG
  iapply (runs_bind c)
  iapply (part37 m K c) $$ [HG HRW]
  · isplitl [HG]; · iexact HG
    iexact HRW
  iintro %r ⟨HG, HRW⟩
  iapply (runs_bind c)
  iapply (part38 m K c) $$ [HG HRW]
  · isplitl [HG]; · iexact HG
    iexact HRW
  iintro %r ⟨HG, HRW⟩
  iapply (runs_bind c)
  iapply (part39 m K c) $$ [HG HRW]
  · isplitl [HG]; · iexact HG
    iexact HRW
  iintro %r ⟨HG, HRW⟩
  iapply (runs_bind c)
  iapply (part40 m K c) $$ [HG HRW]
  · isplitl [HG]; · iexact HG
    iexact HRW
  iintro %r ⟨HG, HRW⟩
  iapply (runs_bind c)
  iapply (part41 m K c) $$ [HG HRW]
  · isplitl [HG]; · iexact HG
    iexact HRW
  iintro %r ⟨HG, HRW⟩
  simp only [Prog.bind_op, Prog.bind_ret, Prog.pure_eq_ret]
  iapply (ag_wait m K c 17 (by decide) rfl (n := 48) rfl) $$ HG; iintro HG
  iapply (ag_wait m K c 18 (by decide) rfl (n := 48) rfl) $$ HG; iintro HG
  unfold Runs
  rw [wp_ret]; imodintro
  iapply Hk
  unfold End0 Args
  isplitl [HG]; · iexact HG
  isplitl [HRW]; · iexact HRW
  isplitl [HRG]; · iexact HRG
  isplitl [Hz]; · iexact Hz
  isplitl [HEnv]; · iexact HEnv
  isplitl [HRw HE HV]
  · isplitl [HRw]; · iexact HRw
    isplitl [HE] <;> iassumption
  iexact HS0

/-- and with the last two waits the whole body. -/
theorem run_body {Q} : iprop(Start0 m K c ∗ Start1 m c) ⊢ iprop((End0 m K c 21 -∗ Q ⟨⟩) -∗ Runs c (onBufs (cc0_body (F := F))) Q) := by
  simp only [onBufs, cc0_body_eq_skeleton]
  unfold cc0_body_skel
  simp only [Prog.lift]
  iintro HS Hk
  iapply (runs_bind c)
  iapply (run42 m K c) $$ HS
  iintro HE
  unfold End0
  icases HE with ⟨HG, HE⟩
  simp only [Prog.bind_op, Prog.bind_ret, Prog.pure_eq_ret]
  iapply (ag_wait m K c 19 (by decide) rfl (n := 32) rfl) $$ HG; iintro HG
  iapply (ag_wait m K c 20 (by decide) rfl (n := 32) rfl) $$ HG; iintro HG
  unfold Runs
  rw [wp_ret]; imodintro
  iapply Hk
  isplitl [HG] <;> iassumption

end Cert.KernelIdeal.Moe

end
-- ==== Proof.Pieces.lean ====
/-
# The buffers, cut and put together

Which rows of each buffer the protocol hands around, and that they make up the whole buffer.
-/
module

public import proofs.«01_k».proof.Proof.Body

@[expose] public section

noncomputable section

namespace Cert.KernelIdeal.Moe
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Any buffer -/

omit [FloatOps F] in
/-- A whole buffer in disjoint parts, -/
theorem part_split {ℓ : Loc nD τ sig} {T : Type} (S : Finset T) (K : T → Finset (Idx ℓ)) (h : ∀ t ∈ S, ∀ t' ∈ S, t ≠ t' → Disjoint (K t) (K t')) :
    iprop(∃ f : Buf (Elt F) ℓ, ℓ ↦{fullShare} f) ⊢ (bigSep S fun t => iprop(∃ f : Buf (Elt F) ℓ, ℓ ↦[K t]{fullShare} f) : sProp 𝕄) := by
  have hm : ∀ (f : Buf (Elt F) ℓ) (t : T), (ℓ ↦[K t]{fullShare} f : sProp 𝕄) ⊢ iprop(∃ f : Buf (Elt F) ℓ, ℓ ↦[K t]{fullShare} f) := fun f t => by
    iintro H; iexists f; iexact H
  have hs : ∀ f : Buf (Elt F) ℓ, (ℓ ↦{fullShare} f : sProp 𝕄) ⊢ bigSep S fun t => iprop(∃ f : Buf (Elt F) ℓ, ℓ ↦[K t]{fullShare} f) := fun f => by
    have h1 : (ℓ ↦{fullShare} f : sProp 𝕄) ⊢ (ℓ ↦[S.biUnion K]{fullShare} f) := by
      iintro H
      ihave H := (pointsTo_split_subset (Finset.subset_univ (S.biUnion K))).1 $$ H
      icases H with ⟨H, -⟩
      iexact H
    exact (h1.trans (Entails.of_eq (pointsTo_biUnion S K h))).trans (bigSep_mono fun t _ => hm f t)
  iintro ⟨%f, H⟩
  iapply (hs f) $$ H
omit [FloatOps F] in
/-- and from disjoint parts that cover it. -/
theorem part_join {ℓ : Loc nD τ sig} {T : Type} [DecidableEq T] (f₀ : Buf (Elt F) ℓ) (S : Finset T) (K : T → Finset (Idx ℓ)) (h : ∀ t ∈ S, ∀ t' ∈ S, t ≠ t' → Disjoint (K t) (K t'))
    (hc : ∀ i, ∃ t ∈ S, i ∈ K t) :
    (bigSep S fun t => iprop(∃ f : Buf (Elt F) ℓ, ℓ ↦[K t]{fullShare} f) : sProp 𝕄) ⊢ iprop(∃ f : Buf (Elt F) ℓ, ℓ ↦{fullShare} f) := by
  have hu : S.biUnion K = Finset.univ := Finset.eq_univ_of_forall fun i => by
    obtain ⟨t, ht, hi⟩ := hc i
    exact Finset.mem_biUnion.mpr ⟨t, ht, hi⟩
  have hj : ∀ fs : T → Buf (Elt F) ℓ, (bigSep S fun t => (ℓ ↦[K t]{fullShare} fs t : sProp 𝕄)) ⊢ iprop(∃ f : Buf (Elt F) ℓ, ℓ ↦{fullShare} f) := fun fs => by
    iintro H
    ihave H := (pointsTo_biUnion_join S K fs f₀ h) $$ H
    icases H with ⟨%g, -, H⟩
    rw [hu]
    iexists g; iexact H
  haveI : Nonempty (Buf (Elt F) ℓ) := ⟨f₀⟩
  iintro H
  ihave H := (BI.bigSep_exists_pi S (fun (t : T) (f : Buf (Elt F) ℓ) => (ℓ ↦[K t]{fullShare} f : sProp 𝕄))) $$ H
  icases H with ⟨%fs, H⟩
  iapply (hj fs) $$ H

theorem rws_disjoint {o n o' n' : ℕ} (h : o + n ≤ o' ∨ o' + n' ≤ o) : Disjoint (rws o n) (rws o' n') := by
  rw [Finset.disjoint_left]
  intro i h1 h2
  rw [mem_rws] at h1 h2
  omega
theorem slt_disjoint {j j' : ℕ} (h : j ≠ j') : Disjoint (slt j) (slt j') := by
  unfold slt
  rw [Finset.disjoint_filter]
  rintro i - h1 h2
  exact h (h1.symm.trans h2)

/-! ## Which rows -/

/-- The pieces cover every row, -/
theorem piece_cover (c : Dev nD) : ∀ b < 64, ∃ p < 24, pRow c p ≤ 16 * b ∧ 16 * b + 16 ≤ pRow c p + pLen p := by
  revert c; decide +kernel
theorem piece_cover' (c : Dev nD) (i : S1024x512.Idx) : ∃ p < 24, i ∈ rws (pRow c p) (pLen p) := by
  have hi : (i 0).val < 1024 := (i 0).isLt
  obtain ⟨p, hp, h1, h2⟩ := piece_cover c ((i 0).val / 16) (by omega)
  exact ⟨p, hp, mem_rws.mpr (by omega)⟩
/-- and no two meet. -/
theorem piece_disj (c : Dev nD) : ∀ p < 24, ∀ p' < 24, p ≠ p' → pRow c p + pLen p ≤ pRow c p' ∨ pRow c p' + pLen p' ≤ pRow c p := by
  revert c; decide +kernel
theorem own_disj (c : Dev nD) : ∀ r < 21, cRow c 0 + 128 ≤ pRow c (3 + r) ∨ pRow c (3 + r) + pLen (3 + r) ≤ cRow c 0 := by
  revert c; decide +kernel
theorem chunk_cover (c : Dev nD) : ∀ b < 8, ∃ j < 8, cRow c j = 128 * b := by
  revert c; decide +kernel
theorem chunk_disj (c : Dev nD) : ∀ j < 8, ∀ j' < 8, j ≠ j' → cRow c j + 128 ≤ cRow c j' ∨ cRow c j' + 128 ≤ cRow c j := by
  revert c; decide +kernel

/-- The five parts in which the products are written: where each starts, and its length. -/
def aOff (c : Dev nD) (t : ℕ) : ℕ := [gRow c 6, gRow c 2, gRow c 4, cRow c 1, cRow c 0].getD t 0
def aLen (t : ℕ) : ℕ := [256, 256, 256, 128, 128].getD t 0
theorem a_disj (c : Dev nD) : ∀ t < 5, ∀ t' < 5, t ≠ t' → aOff c t + aLen t ≤ aOff c t' ∨ aOff c t' + aLen t' ≤ aOff c t := by
  revert c; decide +kernel
theorem cvP_surj : ∀ p < 24, ∃ j < 24, cvP j = p := by decide

/-! ## The products -/

omit [FloatOps F] in
theorem acc_cut : Some' (F := F) c cc0_scratch1 ⊢ iprop(accHole (F := F) c (gRow c 6) 256 ∗ accHole (F := F) c (gRow c 2) 256 ∗ accHole (F := F) c (gRow c 4) 256
    ∗ accHole (F := F) c (cRow c 1) 128 ∗ accHole (F := F) c (cRow c 0) 128) := by
  have hd : ∀ t ∈ Finset.range 5, ∀ t' ∈ Finset.range 5, t ≠ t' → Disjoint (rws (aOff c t) (aLen t)) (rws (aOff c t') (aLen t')) :=
    fun t ht t' ht' hne => rws_disjoint (a_disj c t (Finset.mem_range.mp ht) t' (Finset.mem_range.mp ht') hne)
  have h : Some' (F := F) c cc0_scratch1 ⊢ bigSep (Finset.range 5) fun t => accHole (F := F) c (aOff c t) (aLen t) :=
    part_split (F := F) (ℓ := accL c) (Finset.range 5) (fun t => rws (aOff c t) (aLen t)) hd
  have e : (bigSep (Finset.range 5) fun t => accHole (F := F) c (aOff c t) (aLen t))
      = iprop(accHole (F := F) c (cRow c 0) 128 ∗ accHole (F := F) c (cRow c 1) 128 ∗ accHole (F := F) c (gRow c 4) 256 ∗ accHole (F := F) c (gRow c 2) 256
        ∗ accHole (F := F) c (gRow c 6) 256 ∗ emp) := by
    rw [bigSep_range_succ, bigSep_range_succ, bigSep_range_succ, bigSep_range_succ, bigSep_range_succ, Finset.range_zero, bigSep_empty]
    rfl
  iintro H
  ihave H := h $$ H
  ihave H := (Entails.of_eq e) $$ H
  icases H with ⟨H0, H1, H4, H2, H6, -⟩
  isplitl [H6]; · iexact H6
  isplitl [H2]; · iexact H2
  isplitl [H4]; · iexact H4
  isplitl [H1]; · iexact H1
  iexact H0

theorem acc_whole : iprop(bigSep (Finset.range 7) (fun i => accP m c (rsJ i)) ∗ accHole (F := F) c (cRow c 0) 128) ⊢ Some' (F := F) c cc0_scratch1 := by
  have hd : ∀ t ∈ Finset.range 8, ∀ t' ∈ Finset.range 8, t ≠ t' → Disjoint (rws (cRow c t) 128) (rws (cRow c t') 128) :=
    fun t ht t' ht' hne => rws_disjoint (chunk_disj c t (Finset.mem_range.mp ht) t' (Finset.mem_range.mp ht') hne)
  have hc : ∀ i : S1024x512.Idx, ∃ t ∈ Finset.range 8, i ∈ rws (cRow c t) 128 := fun i => by
    have hi : (i 0).val < 1024 := (i 0).isLt
    obtain ⟨j, hj, h⟩ := chunk_cover c ((i 0).val / 128) (by omega)
    exact ⟨j, Finset.mem_range.mpr hj, mem_rws.mpr (by omega)⟩
  have h : (bigSep (Finset.range 8) fun j => accHole (F := F) c (cRow c j) 128) ⊢ Some' (F := F) c cc0_scratch1 :=
    part_join (F := F) (ℓ := accL c) (AB m c) (Finset.range 8) (fun t => rws (cRow c t) 128) hd hc
  have hm : ∀ j, accP m c j ⊢ accHole (F := F) c (cRow c j) 128 := fun j => by
    unfold accP accHole
    iintro H; iexists _; iexact H
  have hs : iprop(accHole (F := F) c (cRow c 0) 128 ∗ bigSep (Finset.Ico 1 8) (accP m c)) ⊢ bigSep (Finset.range 8) fun j => accHole (F := F) c (cRow c j) 128 := by
    rw [show Finset.range 8 = insert 0 (Finset.Ico 1 8) by decide, bigSep_insert (by decide)]
    exact sep_mono_right (bigSep_mono fun j _ => hm j)
  have e : (bigSep (Finset.range 7) fun i => accP m c (rsJ i)) = bigSep (Finset.Ico 1 8) (accP m c) := by
    rw [show Finset.Ico 1 8 = (Finset.range 7).image rsJ by decide]
    refine (bigSep_image_of_injOn ?_ _).symm
    have key : ∀ a ∈ Finset.range 7, ∀ b ∈ Finset.range 7, rsJ a = rsJ b → a = b := by decide
    exact fun a ha b hb h => key a ha b hb h
  rw [e]
  iintro ⟨H, H0⟩
  iapply h
  iapply hs
  isplitl [H0]; · iexact H0
  iexact H

/-! ## The receive buffer -/

omit [FloatOps F] in
theorem rb_cut : Some' (F := F) c cc0_scratch4 ⊢ bigSep (Finset.Ico 1 8) fun j => rbHole (F := F) c (j - 1) := by
  unfold rbHole
  refine part_split (F := F) (ℓ := rbL c) (Finset.Ico 1 8) (fun j => slt (j - 1)) fun t ht t' ht' hne => slt_disjoint ?_
  have h1 := Finset.mem_Ico.mp ht
  have h2 := Finset.mem_Ico.mp ht'
  omega

theorem rb_whole : bigSep (Finset.range 7) (fun i => rbP m c (rsJ i - 1)) ⊢ Some' (F := F) c cc0_scratch4 := by
  have hd : ∀ t ∈ Finset.range 7, ∀ t' ∈ Finset.range 7, t ≠ t' → Disjoint (slt (rsJ t - 1)) (slt (rsJ t' - 1)) := by
    have key : ∀ a ∈ Finset.range 7, ∀ b ∈ Finset.range 7, a ≠ b → rsJ a - 1 ≠ rsJ b - 1 := by decide
    exact fun t ht t' ht' hne => slt_disjoint (key t ht t' ht' hne)
  have hc : ∀ i : S7x128x512.Idx, ∃ t ∈ Finset.range 7, i ∈ slt (rsJ t - 1) := fun i => by
    have key : ∀ n < 7, ∃ t ∈ Finset.range 7, n = rsJ t - 1 := by decide
    obtain ⟨t, ht, h⟩ := key (i 0).val (i 0).isLt
    exact ⟨t, ht, by unfold slt; exact Finset.mem_filter.mpr ⟨Finset.mem_univ _, h⟩⟩
  have hm : ∀ t, rbP m c (rsJ t - 1) ⊢ iprop(∃ f : Buf (Elt F) (rbL c), rbL c ↦[slt (rsJ t - 1)]{fullShare} f) := fun t => by
    unfold rbP
    iintro H; iexists _; iexact H
  exact (bigSep_mono fun t _ => hm t).trans (part_join (F := F) (ℓ := rbL c) (RB m c) (Finset.range 7) (fun t => slt (rsJ t - 1)) hd hc)

/-! ## The gathered result -/

/-- The own rows, and the places of the pieces to be received. -/
def stK (c : Dev nD) (t : ℕ) : Finset S1024x512.Idx := if t < 21 then rws (pRow c (3 + t)) (pLen (3 + t)) else rws (cRow c 0) 128

omit [FloatOps F] in
theorem st_cut : Some' (F := F) c cc0_scratch2 ⊢ iprop(Hole (F := F) c (cRow c 0) 128 ∗ bigSep (Finset.range 21) fun r => Hole (F := F) c (pRow c (3 + r)) (pLen (3 + r))) := by
  have hd : ∀ t ∈ Finset.range 22, ∀ t' ∈ Finset.range 22, t ≠ t' → Disjoint (stK c t) (stK c t') := fun t ht t' ht' hne => by
    have h1 := Finset.mem_range.mp ht
    have h2 := Finset.mem_range.mp ht'
    unfold stK
    by_cases a : t < 21 <;> by_cases b : t' < 21
    · rw [if_pos a, if_pos b]; exact rws_disjoint (piece_disj c _ (by omega) _ (by omega) (by omega))
    · rw [if_pos a, if_neg b]; exact rws_disjoint (own_disj c t a).symm
    · rw [if_neg a, if_pos b]; exact rws_disjoint (own_disj c t' b)
    · omega
  have h := part_split (F := F) (ℓ := stL c) (Finset.range 22) (stK c) hd
  have e : (bigSep (Finset.range 21) fun r => iprop(∃ f : Buf (Elt F) (stL c), stL c ↦[stK c r]{fullShare} f) : sProp 𝕄)
      = bigSep (Finset.range 21) fun r => Hole (F := F) c (pRow c (3 + r)) (pLen (3 + r)) :=
    bigSep_congr fun r hr => by unfold Hole stK; rw [if_pos (Finset.mem_range.mp hr)]
  have e0 : (iprop(∃ f : Buf (Elt F) (stL c), stL c ↦[stK c 21]{fullShare} f) : sProp 𝕄) = Hole (F := F) c (cRow c 0) 128 := by
    unfold Hole stK; rw [if_neg (by decide)]
  have e' : (bigSep (Finset.range 22) fun t => iprop(∃ f : Buf (Elt F) (stL c), stL c ↦[stK c t]{fullShare} f) : sProp 𝕄)
      = iprop(Hole (F := F) c (cRow c 0) 128 ∗ bigSep (Finset.range 21) fun r => Hole (F := F) c (pRow c (3 + r)) (pLen (3 + r))) := by
    rw [bigSep_range_succ, e, e0]
  exact BI.Entails.trans h (Entails.of_eq e')

theorem st_whole : iprop(Reads m c 24 ∗ Outs m c 21 21 24) ⊢ Some' (F := F) c cc0_scratch2 := by
  have hd : ∀ t ∈ Finset.range 24, ∀ t' ∈ Finset.range 24, t ≠ t' → Disjoint (rws (pRow c t) (pLen t)) (rws (pRow c t') (pLen t')) :=
    fun t ht t' ht' hne => rws_disjoint (piece_disj c t (Finset.mem_range.mp ht) t' (Finset.mem_range.mp ht') hne)
  have hc : ∀ i : S1024x512.Idx, ∃ t ∈ Finset.range 24, i ∈ rws (pRow c t) (pLen t) := fun i => by
    obtain ⟨p, hp, h⟩ := piece_cover' c i
    exact ⟨p, Finset.mem_range.mpr hp, h⟩
  have hm : ∀ p, iprop(Piece m c p (qt 3) ∗ bigSep (Finset.range 3) fun t => if away 21 21 (p, t) then iprop(emp) else Piece m c p (qt t))
      ⊢ iprop(∃ f : Buf (Elt F) (stL c), stL c ↦[rws (pRow c p) (pLen p)]{fullShare} f) := fun p => by
    have ha : ∀ t, ¬ away 21 21 (p, t) := fun t h => by
      obtain ⟨i, hi, -⟩ := h
      rw [Finset.Ico_self] at hi
      exact absurd hi (Finset.notMem_empty i)
    rw [bigSep_congr (Ψ := fun t => Piece m c p (qt t)) fun t _ => if_neg (ha t)]
    iintro H
    ihave H := (Entails.of_eq (Piece_quarters m c p).symm) $$ H
    unfold Piece
    iexists _; iexact H
  unfold Reads Outs
  rw [← bigSep_sep']
  exact (bigSep_mono fun p _ => hm p).trans (part_join (F := F) (ℓ := stL c) (SG m) (Finset.range 24) (fun p => rws (pRow c p) (pLen p)) hd hc)

/-- With every piece widened, the result is there. -/
theorem out_whole : OutInv m c 24 ⊢ Holds c cc0_stg5_0 (OUT m) := by
  unfold OutInv
  iintro ⟨%f, %hf, H⟩
  have e : f = OUT m := funext fun i => by
    obtain ⟨p, hp, hi⟩ := piece_cover' c i
    obtain ⟨j, hj, rfl⟩ := cvP_surj p hp
    exact hf j hj i hi
  subst e
  iexact H

/-! ## What the barrier hands on -/

omit [FloatOps F] in
theorem bar_pay : iprop((bigSep (Finset.Ico 1 8) fun j => rbHole (F := F) c (j - 1)) ∗ bigSep (Finset.range 21) fun r => Hole (F := F) c (pRow c (3 + r)) (pLen (3 + r)))
    = bigSep (Finset.Ico 1 8) fun j => barPay (F := F) (xr c j) j := by
  have e1 : ∀ j ∈ Finset.Ico 1 8, barPay (F := F) (xr c j) j
      = iprop(rbHole (F := F) c (j - 1) ∗ bigSep ((Finset.range 21).filter fun i => agM i = j) fun i => Hole (F := F) c (pRow c (3 + ivR (agI i))) (pLen (3 + ivR (agI i)))) := fun j hj => by
    have hx := xr_xr c j (Finset.mem_Ico.mp hj).2
    unfold barPay
    rw [hx]
    refine congrArg (BIBase.sep _) (bigSep_congr fun i hi => ?_)
    obtain ⟨h1, h2⟩ := Finset.mem_filter.mp hi
    have h3 := Finset.mem_range.mp h1
    have h := pRow_send (xr c j) i h3
    rw [h2, hx] at h
    rw [h, pLen_send i h3]
  rw [bigSep_congr e1, bigSep_sep', bigSep_groups, Finset.filter_true_of_mem (by decide)]
  refine congrArg (BIBase.sep _) ?_
  conv_lhs => rw [show Finset.range 21 = (Finset.range 21).image fun i => ivR (agI i) by decide]
  refine bigSep_image_of_injOn ?_ _
  have key : ∀ a ∈ Finset.range 21, ∀ b ∈ Finset.range 21, ivR (agI a) = ivR (agI b) → a = b := by decide
  exact fun a ha b hb h => key a ha b hb h

end Cert.KernelIdeal.Moe

end
-- ==== Proof.Tokens.lean ====
/-
# What the launch deals out

The tokens, positions and credits of all cells, and how each device gets those it uses.
-/
module

public import proofs.«01_k».proof.Proof.Pieces

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 57 → ℕ) (c : Dev nD)

/-! ## Families -/

omit [FloatOps F] in
theorem bigSep_fin (n : ℕ) (Φ : ℕ → sProp 𝕄) : (bigSep Finset.univ fun k : Fin n => Φ k.val) = bigSep (Finset.range n) Φ := by
  have h : Finset.range n = Finset.univ.map (⟨Fin.val, Fin.val_injective⟩ : Fin n ↪ ℕ) := by
    ext i
    simp only [Finset.mem_range, Finset.mem_map, Finset.mem_univ, true_and, Function.Embedding.coeFn_mk]
    exact ⟨fun h => ⟨⟨i, h⟩, rfl⟩, fun ⟨a, ha⟩ => ha ▸ a.isLt⟩
  rw [h, bigSep_map]; rfl

omit [FloatOps F] in
/-- The same members in another order. -/
theorem bigSep_perm {s t : Finset ℕ} (f : ℕ → ℕ) (h : t = s.image f) (hinj : ∀ a ∈ s, ∀ b ∈ s, f a = f b → a = b) (Φ : ℕ → sProp 𝕄) :
    bigSep t Φ = bigSep s fun i => Φ (f i) := by
  rw [h]; exact bigSep_image_of_injOn (fun a ha b hb e => hinj a ha b hb e) Φ

omit [FloatOps F] in
theorem bigSep_two {s t u : Finset ℕ} (h : u = s ∪ t) (hd : Disjoint s t) (Φ : ℕ → sProp 𝕄) : bigSep u Φ = iprop(bigSep s Φ ∗ bigSep t Φ) := by
  rw [h]; exact bigSep_union hd

omit [FloatOps F] in
/-- The 57 cells in the order of their use. -/
theorem cells_cut (Φ : ℕ → sProp 𝕄) : bigSep (Finset.range 57) Φ
    = iprop(Φ 0 ∗ (bigSep (Finset.Ico 0 7) fun i => Φ (rsJ i)) ∗ (bigSep (Finset.Ico 0 7) fun i => Φ (7 + rsJ i))
      ∗ (bigSep (Finset.Ico 0 21) fun i => Φ (15 + agI i)) ∗ bigSep (Finset.Ico 0 21) fun r => Φ (36 + rvI r)) := by
  rw [bigSep_two (s := {0}) (t := Finset.Ico 1 57) (by decide) (by decide), bigSep_singleton,
    bigSep_two (u := Finset.Ico 1 57) (s := Finset.Ico 1 8) (t := Finset.Ico 8 57) (by decide) (by decide),
    bigSep_two (u := Finset.Ico 8 57) (s := Finset.Ico 8 15) (t := Finset.Ico 15 57) (by decide) (by decide),
    bigSep_two (u := Finset.Ico 15 57) (s := Finset.Ico 15 36) (t := Finset.Ico 36 57) (by decide) (by decide),
    bigSep_perm (s := Finset.Ico 0 7) (t := Finset.Ico 1 8) rsJ (by decide) (by decide),
    bigSep_perm (s := Finset.Ico 0 7) (t := Finset.Ico 8 15) (fun i => 7 + rsJ i) (by decide) (by decide),
    bigSep_perm (s := Finset.Ico 0 21) (t := Finset.Ico 15 36) (fun i => 15 + agI i) (by decide) (by decide),
    bigSep_perm (s := Finset.Ico 0 21) (t := Finset.Ico 36 57) (fun i => 36 + rvI i) (by decide) (by decide)]

omit [FloatOps F] in
theorem bigSep_swap {I J : Type} [DecidableEq I] [DecidableEq J] (S : Finset I) (T : Finset J) (Φ : I → J → sProp 𝕄) :
    (bigSep S fun i => bigSep T (Φ i)) = bigSep T fun j => bigSep S fun i => Φ i j := by
  induction T using Finset.induction_on with
  | empty =>
    rw [bigSep_empty]
    induction S using Finset.induction_on with
    | empty => rw [bigSep_empty]
    | insert a S ha ih => rw [bigSep_insert ha, ih, bigSep_empty]; exact BI.equiv_iff.mp emp_sep
  | insert a T ha ih =>
    rw [bigSep_insert ha, ← ih]
    rw [bigSep_congr (Ψ := fun i => iprop(Φ i a ∗ bigSep T (Φ i))) fun i _ => bigSep_insert ha]
    exact bigSep_sep' _ _ _

/-! ## Tokens -/

/-- The 63 tokens of a device's cells: of which cell, -/
def tokK (n : ℕ) : ℕ := if n < 7 then 0 else if n < 14 then rsJ (n - 7) else if n < 21 then 7 + rsJ (n - 14) else if n < 42 then 15 + agI (n - 21) else 36 + agI (n - 42)
/-- for which duty, -/
def tokD (n : ℕ) : ℕ := if n < 7 then n + 1 else 0
/-- and the mask of the device that uses it. -/
def tokM (n : ℕ) : ℕ := if n < 7 then n + 1 else if n < 14 then 0 else if n < 21 then rsJ (n - 14) else if n < 42 then 0 else agM (n - 42)

/-- A device flips to another by a mask, -/
def flip (j : ℕ) (hj : j < 8) : Dev nD ≃ Dev nD := ⟨fun c => xr c j, fun c => xr c j, fun c => xr_xr c j hj, fun c => xr_xr c j hj⟩
theorem xr_zero (c : Dev nD) : xr c 0 = c := by revert c; decide

/-- The tokens of device `c`'s cells, -/
def toks : sProp 𝕄 := bigSep (Finset.range 63) fun n => dutyTok ER (kcell c (tokK n)) 0 (tokD n)
/-- and those device `c` uses. -/
def payToks : sProp 𝕄 := bigSep (Finset.range 63) fun n => dutyTok ER (kcell (xr c (tokM n)) (tokK n)) 0 (tokD n)

omit [FloatOps F] in
theorem toks_around : (bigSep Finset.univ fun c : Dev nD => toks (F := F) c) = bigSep Finset.univ fun c : Dev nD => payToks (F := F) c := by
  unfold toks payToks
  rw [bigSep_swap Finset.univ (Finset.range 63), bigSep_swap Finset.univ (Finset.range 63)]
  refine bigSep_congr fun n hn => ?_
  have h8 : ∀ n ∈ Finset.range 63, tokM n < 8 := by decide
  exact bigSep_univ_equiv (flip (tokM n) (h8 n hn)) (fun c : Dev nD => (dutyTok ER (kcell c (tokK n)) 0 (tokD n) : sProp 𝕄))

omit [FloatOps F] in
theorem payToks_eq : payToks (F := F) c
    = iprop((bigSep (Finset.Ico 1 8) fun j => dutyTok ER (kcell (xr c j) 0) 0 j)
      ∗ (bigSep (Finset.Ico 0 7) fun i => iprop(dutyTok ER (kcell c (rsJ i)) 0 0 ∗ dutyTok ER (kcell (xr c (rsJ i)) (7 + rsJ i)) 0 0))
      ∗ bigSep (Finset.Ico 0 21) fun i => iprop(dutyTok ER (kcell c (15 + agI i)) 0 0 ∗ dutyTok ER (kcell (xr c (agM i)) (36 + agI i)) 0 0)) := by
  have e1 : ∀ j ∈ Finset.Ico 1 8, (fun n => (dutyTok ER (kcell (xr c (tokM n)) (tokK n)) 0 (tokD n) : sProp 𝕄)) (j - 1) = dutyTok ER (kcell (xr c j) 0) 0 j := by
    have k : ∀ j ∈ Finset.Ico 1 8, tokM (j - 1) = j ∧ tokK (j - 1) = 0 ∧ tokD (j - 1) = j := by decide
    intro j hj
    dsimp only
    rw [(k j hj).1, (k j hj).2.1, (k j hj).2.2]
  have e2 : ∀ i ∈ Finset.Ico 0 7, (fun n => (dutyTok ER (kcell (xr c (tokM n)) (tokK n)) 0 (tokD n) : sProp 𝕄)) (7 + i) = dutyTok ER (kcell c (rsJ i)) 0 0 := by
    have k : ∀ i ∈ Finset.Ico 0 7, tokM (7 + i) = 0 ∧ tokK (7 + i) = rsJ i ∧ tokD (7 + i) = 0 := by decide
    intro j hj
    dsimp only
    rw [(k j hj).1, (k j hj).2.1, (k j hj).2.2, xr_zero]
  have e3 : ∀ i ∈ Finset.Ico 0 7, (fun n => (dutyTok ER (kcell (xr c (tokM n)) (tokK n)) 0 (tokD n) : sProp 𝕄)) (14 + i) = dutyTok ER (kcell (xr c (rsJ i)) (7 + rsJ i)) 0 0 := by
    have k : ∀ i ∈ Finset.Ico 0 7, tokM (14 + i) = rsJ i ∧ tokK (14 + i) = 7 + rsJ i ∧ tokD (14 + i) = 0 := by decide
    intro j hj
    dsimp only
    rw [(k j hj).1, (k j hj).2.1, (k j hj).2.2]
  have e4 : ∀ i ∈ Finset.Ico 0 21, (fun n => (dutyTok ER (kcell (xr c (tokM n)) (tokK n)) 0 (tokD n) : sProp 𝕄)) (21 + i) = dutyTok ER (kcell c (15 + agI i)) 0 0 := by
    have k : ∀ i ∈ Finset.Ico 0 21, tokM (21 + i) = 0 ∧ tokK (21 + i) = 15 + agI i ∧ tokD (21 + i) = 0 := by decide
    intro j hj
    dsimp only
    rw [(k j hj).1, (k j hj).2.1, (k j hj).2.2, xr_zero]
  have e5 : ∀ i ∈ Finset.Ico 0 21, (fun n => (dutyTok ER (kcell (xr c (tokM n)) (tokK n)) 0 (tokD n) : sProp 𝕄)) (42 + i) = dutyTok ER (kcell (xr c (agM i)) (36 + agI i)) 0 0 := by
    have k : ∀ i ∈ Finset.Ico 0 21, tokM (42 + i) = agM i ∧ tokK (42 + i) = 36 + agI i ∧ tokD (42 + i) = 0 := by decide
    intro j hj
    dsimp only
    rw [(k j hj).1, (k j hj).2.1, (k j hj).2.2]
  unfold payToks
  rw [bigSep_two (u := Finset.range 63) (s := Finset.Ico 0 7) (t := Finset.Ico 7 63) (by decide) (by decide),
    bigSep_two (u := Finset.Ico 7 63) (s := Finset.Ico 7 21) (t := Finset.Ico 21 63) (by decide) (by decide),
    bigSep_two (u := Finset.Ico 7 21) (s := Finset.Ico 7 14) (t := Finset.Ico 14 21) (by decide) (by decide),
    bigSep_two (u := Finset.Ico 21 63) (s := Finset.Ico 21 42) (t := Finset.Ico 42 63) (by decide) (by decide),
    bigSep_perm (s := Finset.Ico 1 8) (t := Finset.Ico 0 7) (fun j => j - 1) (by decide) (by decide), bigSep_congr e1,
    bigSep_perm (s := Finset.Ico 0 7) (t := Finset.Ico 7 14) (fun i => 7 + i) (by decide) (by decide), bigSep_congr e2,
    bigSep_perm (s := Finset.Ico 0 7) (t := Finset.Ico 14 21) (fun i => 14 + i) (by decide) (by decide), bigSep_congr e3,
    bigSep_perm (s := Finset.Ico 0 21) (t := Finset.Ico 21 42) (fun i => 21 + i) (by decide) (by decide), bigSep_congr e4,
    bigSep_perm (s := Finset.Ico 0 21) (t := Finset.Ico 42 63) (fun i => 42 + i) (by decide) (by decide), bigSep_congr e5,
    ← bigSep_sep', ← bigSep_sep']

/-! ## Credits -/

/-- The units device `c`'s cell `k` is owed by all devices together. -/
def due (k : ℕ) : ℕ := if k = 0 then 7 else if k < 8 then 0 else if k < 15 then amtK k else if k < 36 then 0 else amtK k

theorem due_sum : ∀ k < 57, (∑ i ∈ Finset.Ico 0 35, if obK i = k then amtK (obK i) else 0) = due k := by decide +kernel
theorem obM_lt : ∀ i < 35, obM i < 8 := by decide

theorem kcell_eq {c d : Dev nD} {k k' : ℕ} (hk : k < 57) (hk' : k' < 57) (h : kcell c k = kcell d k') : c = d ∧ k = k' := by
  refine ⟨congrArg (fun g : GSem nD τ sig => g.1.1) h, ?_⟩
  have e : kof (smk k) = kof (smk k') := congrArg (fun g : GSem nD τ sig => kof g.2) h
  rwa [kof_smk k hk, kof_smk k' hk'] at e

theorem owed_all {k : ℕ} (hk : k < 57) : (∑ d : Dev nD, Osum d 0 (kcell c k) ()) = due k := by
  have e : ∀ d : Dev nD, Osum d 0 (kcell c k) () = ∑ i ∈ Finset.Ico 0 35, if d = xr c (obM i) then (if obK i = k then amtK (obK i) else 0) else 0 := fun d => by
    unfold Osum
    rw [Finset.sum_apply, Finsupp.finset_sum_apply]
    refine Finset.sum_congr rfl fun i hi => ?_
    have hi' : i < 35 := (Finset.mem_Ico.mp hi).2
    rw [tallyAt_apply]
    by_cases h : d = xr c (obM i) ∧ obK i = k
    · rw [if_pos h.1, if_pos h.2, if_pos ⟨by rw [h.1, xr_xr c _ (obM_lt i hi'), h.2], rfl⟩]
    · have h1 : ¬ (kcell c k = kcell (xr d (obM i)) (obK i) ∧ () = ()) := fun ⟨hh, _⟩ => by
        obtain ⟨h2, h3⟩ := kcell_eq hk (obK_lt i hi') hh
        exact h ⟨by rw [h2, xr_xr d _ (obM_lt i hi')], h3.symm⟩
      rw [if_neg h1]
      by_cases h2 : d = xr c (obM i)
      · rw [if_pos h2, if_neg fun h3 => h ⟨h2, h3⟩]
      · rw [if_neg h2]
  rw [Finset.sum_congr rfl fun d _ => e d, Finset.sum_comm, ← due_sum k hk]
  refine Finset.sum_congr rfl fun i _ => ?_
  rw [Finset.sum_ite_eq' Finset.univ (xr c (obM i)) fun _ => if obK i = k then amtK (obK i) else 0, if_pos (Finset.mem_univ _)]

omit [FloatOps F] in
theorem launch_k {k : ℕ} (hk : k < 57) :
    tallyOn (kcell c k) (launchCredit (Pipeline.owing fun c => Osum c 0) 0 (kcell c k)) = (tallyAt (kcell c k) () (due k) : CellTallies nD τ sig Unit) := by
  unfold tallyAt; refine congrArg _ (Finsupp.ext fun u => ?_); cases u
  rw [Pipeline.launchCredit_owing, Finsupp.single_eq_same]
  exact owed_all c hk

/-- The credits of device `c`'s cells. -/
def creds : sProp 𝕄 := bigSep (Finset.range 57) fun k => cred (tallyAt (kcell c k) () (due k))

omit [FloatOps F] in
theorem creds_intro : (Pipeline.launchCred (fun c => Osum c 0) c : sProp 𝕄) ⊢ creds (F := F) c := by
  have hinj : Set.InjOn smk (Finset.range 57 : Finset ℕ) := fun a ha b hb h => by
    have e := congrArg kof h
    rwa [kof_smk a (Finset.mem_range.mp ha), kof_smk b (Finset.mem_range.mp hb)] at e
  have h := bigSep_image_of_injOn hinj (fun sm : SemLoc sig => (cred (tallyOn ((c.tc : Thread nD τ), sm) (launchCredit (Pipeline.owing fun c => Osum c 0) 0 ((c.tc : Thread nD τ), sm))) : sProp 𝕄))
  have h2 : (bigSep (Finset.range 57) fun k => (cred (tallyOn (kcell c k) (launchCredit (Pipeline.owing fun c => Osum c 0) 0 (kcell c k))) : sProp 𝕄)) = creds (F := F) c :=
    bigSep_congr fun k hk => by rw [launch_k c (Finset.mem_range.mp hk)]
  unfold Pipeline.launchCred
  exact (bigSep_subset (Finset.subset_univ _)).trans (Entails.of_eq (h.trans h2))

omit [FloatOps F] in
theorem creds_eq : creds (F := F) c ⊢ iprop(cred (tallyAt (kcell c 0) () 7) ∗ (bigSep (Finset.Ico 0 7) fun i => cred (tallyAt (kcell c (7 + rsJ i)) () (amtK (7 + rsJ i))))
    ∗ bigSep (Finset.Ico 0 21) fun r => cred (tallyAt (kcell c (36 + rvI r)) () (amtK (36 + rvI r)))) := by
  have k1 : ∀ i ∈ Finset.Ico 0 7, due (7 + rsJ i) = amtK (7 + rsJ i) := by decide
  have k2 : ∀ i ∈ Finset.Ico 0 21, due (36 + rvI i) = amtK (36 + rvI i) := by decide
  have e1 : (bigSep (Finset.Ico 0 7) fun i => (cred (tallyAt (kcell c (7 + rsJ i)) () (due (7 + rsJ i))) : sProp 𝕄)) = bigSep (Finset.Ico 0 7) fun i => cred (tallyAt (kcell c (7 + rsJ i)) () (amtK (7 + rsJ i))) :=
    bigSep_congr fun i hi => by rw [k1 i hi]
  have e2 : (bigSep (Finset.Ico 0 21) fun i => (cred (tallyAt (kcell c (36 + rvI i)) () (due (36 + rvI i))) : sProp 𝕄)) = bigSep (Finset.Ico 0 21) fun i => cred (tallyAt (kcell c (36 + rvI i)) () (amtK (36 + rvI i))) :=
    bigSep_congr fun i hi => by rw [k2 i hi]
  unfold creds
  rw [cells_cut, e1, e2]
  iintro ⟨H0, -, H1, -, H2⟩
  isplitl [H0]; · iexact H0
  isplitl [H1] <;> iassumption

/-! ## A device's start -/

/-- The positions of device `c`'s cells. -/
def poss : sProp 𝕄 := bigSep (Finset.range 57) fun k => atPos ER (kcell c k) 0 ∅ 0

/-- What the launch deals device `c`. -/
def ghost : sProp 𝕄 := iprop(records m K ∗ poss (F := F) c ∗ payToks (F := F) c)

omit [FloatOps F] in
theorem sep3 {I : Type} (S : Finset I) (A B C D : I → sProp 𝕄) (h : ∀ i, iprop((A i ∗ B i) ∗ C i) ⊢ D i) :
    iprop(bigSep S (fun i => iprop(A i ∗ B i)) ∗ bigSep S C) ⊢ bigSep S D := by
  rw [← bigSep_sep']
  exact bigSep_mono fun i _ => h i

theorem start0_intro :
    iprop(ghost m K c ∗ creds (F := F) c ∗ levAts L lv ∗ Ow (F := F) c 0 ∗ bigSep (Finset.Ico 1 8) fun j => barPay (F := F) (xr c j) j) ⊢ Start0 m K c := by
  have hr : iprop(bigSep (Finset.Ico 0 7) (fun i => iprop(dutyTok ER (kcell c (rsJ i)) 0 0 ∗ dutyTok ER (kcell (xr c (rsJ i)) (7 + rsJ i)) 0 0))
      ∗ bigSep (Finset.Ico 0 7) fun i => atPos ER (kcell c (rsJ i)) 0 ∅ 0) ⊢ bigSep (Finset.Ico 0 7) (rsTok (F := F) c) :=
    sep3 _ _ _ _ _ fun i => by
      unfold rsTok
      iintro ⟨⟨H1, H2⟩, H3⟩
      isplitl [H1]; · iexact H1
      isplitl [H2] <;> iassumption
  have ha : iprop(bigSep (Finset.Ico 0 21) (fun i => iprop(dutyTok ER (kcell c (15 + agI i)) 0 0 ∗ dutyTok ER (kcell (xr c (agM i)) (36 + agI i)) 0 0))
      ∗ bigSep (Finset.Ico 0 21) fun i => atPos ER (kcell c (15 + agI i)) 0 ∅ 0) ⊢ bigSep (Finset.Ico 0 21) (agTok (F := F) c) :=
    sep3 _ _ _ _ _ fun i => by
      unfold agTok
      iintro ⟨⟨H1, H2⟩, H3⟩
      isplitl [H1]; · iexact H1
      isplitl [H2] <;> iassumption
  have hrw : iprop((bigSep (Finset.Ico 0 7) fun i => atPos ER (kcell c (7 + rsJ i)) 0 ∅ 0) ∗ bigSep (Finset.Ico 0 7) fun i => cred (tallyAt (kcell c (7 + rsJ i)) () (amtK (7 + rsJ i))))
      = bigSep (Finset.Ico 0 7) (rsWait (F := F) c) := by
    unfold rsWait; rw [bigSep_sep']
  have haw : iprop((bigSep (Finset.Ico 0 21) fun i => atPos ER (kcell c (36 + rvI i)) 0 ∅ 0) ∗ bigSep (Finset.Ico 0 21) fun i => cred (tallyAt (kcell c (36 + rvI i)) () (amtK (36 + rvI i))))
      = bigSep (Finset.Ico 0 21) (agWait (F := F) c) := by
    unfold agWait; rw [bigSep_sep']
  have hb : iprop((bigSep (Finset.Ico 1 8) fun j => dutyTok ER (kcell (xr c j) 0) 0 j) ∗ bigSep (Finset.Ico 1 8) fun j => barPay (F := F) (xr c j) j) = BarTodo (F := F) c 0 := by
    unfold BarTodo; rw [bigSep_sep']
  unfold ghost poss Start0 Ctx
  rw [cells_cut, payToks_eq]
  iintro ⟨⟨#HR, ⟨HpB, HpS, HpV, HpAS, HpAV⟩, HtB, HtR, HtA⟩, Hcr, #HL, HO, HBP⟩
  ihave Hcr := (creds_eq c) $$ Hcr
  icases Hcr with ⟨HcB, HcR, HcA⟩
  isplitr
  · isplitr; · iexact HR
    iexact HL
  isplitl [HO]; · iexact HO
  isplitl [HtB HBP]
  · iapply (Entails.of_eq hb)
    isplitl [HtB] <;> iassumption
  isplitl [HpB]; · iexact HpB
  isplitl [HcB]; · iexact HcB
  isplitl [HtR HpS]
  · iapply hr
    isplitl [HtR] <;> iassumption
  isplitl [HpV HcR]
  · iapply (Entails.of_eq hrw)
    isplitl [HpV] <;> iassumption
  isplitl [HtA HpAS]
  · iapply ha
    isplitl [HtA] <;> iassumption
  iapply (Entails.of_eq haw)
  isplitl [HpAV] <;> iassumption

end Cert.KernelIdeal.Moe

end
-- ==== Proof.Launch.lean ====
/-
# The launch

The kernel's body at each device, the ghost state it starts from, and the run of the program: it ends with every
device's result buffer holding the computed contents, for any float values.
-/
module

public import proofs.«01_k».proof.Proof.Tokens
public import Idealize.ShloMosaic.Lib.Pipeline.CollectiveSegs

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore zero, any generator registers. -/
def s₀ : MemSt nD τ sig (Elt F) := ⟨m, fun _ => 0, ρ⟩

/-! ## The proof data -/

/-- What device `c`'s body starts from, besides its buffers, -/
def start (c : Dev nD) : sProp 𝕄 := iprop((∃ K, ghost m K c) ∗ creds (F := F) c ∗ levAts L lv)
/-- its scratch buffers, -/
def scr (c : Dev nD) : sProp 𝕄 :=
  iprop(Some' (F := F) c cc0_scratch0 ∗ Some' (F := F) c cc0_scratch1 ∗ Some' (F := F) c cc0_scratch2 ∗ Some' (F := F) c cc0_scratch3 ∗ Some' (F := F) c cc0_scratch4
    ∗ Some' (F := F) c cc0_scratch5 ∗ Some' (F := F) c cc0_scratch6)
/-- and all its cells closed, at zero. -/
def zeros (c : Dev nD) : sProp 𝕄 := bigSep (Finset.range 57) fun k => semVal (kcell c k) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => RW m c
    | ⟨2, _⟩ => IX m c
    | ⟨3, _⟩ => EW m c
    | ⟨4, _⟩ => SW m c
    | ⟨5, _⟩ => OUT m
  Φ t := match t with
    | ⟨0, _⟩ => iprop(start m c ∗ scr (F := F) c)
    | ⟨_ + 1, _⟩ => iprop(scr (F := F) c ∗ zeros (F := F) c)
  q _ := fullShare
  owed t := match t with
    | ⟨0, _⟩ => Osum c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

theorem zeros_intro (c : Dev nD) :
    iprop(semVal (kcell c 0) 0 ∗ (bigSep (Finset.range 7) fun i => semVal (kcell c (rsJ i)) 0) ∗ (bigSep (Finset.range 7) fun i => semVal (kcell c (7 + rsJ i)) 0)
      ∗ bigSep (Finset.range 21) (agDone (F := F) c) ∗ bigSep (Finset.range 21) (agGot (F := F) c)) = zeros (F := F) c := by
  unfold zeros agDone agGot
  rw [cells_cut, Finset.range_eq_Ico, Finset.range_eq_Ico]

/-- From the end of the body: the scratch buffers whole, the cells closed, the arguments as they were, the result. -/
theorem end_intro (K : Dev nD × Fin 57 → ℕ) (c : Dev nD) :
    iprop(End0 m K c 21 ∗ accHole (F := F) c (cRow c 0) 128)
      ⊢ iprop(scr (F := F) c ∗ zeros (F := F) c ∗ Ow (F := F) c 35 ∗ Holds c cc0_stg0_0 (X m c) ∗ Holds c cc0_stg2_0 (IX m c) ∗ Args m c ∗ Holds c cc0_stg5_0 (OUT m)) := by
  have hd : bigSep (Finset.range 7) (rsDone m c) = iprop((bigSep (Finset.range 7) fun i => semVal (kcell c (rsJ i)) 0) ∗ bigSep (Finset.range 7) fun i => accP m c (rsJ i)) := by
    unfold rsDone; rw [bigSep_sep']
  have hg : bigSep (Finset.range 7) (rsGot m c) = iprop((bigSep (Finset.range 7) fun i => semVal (kcell c (7 + rsJ i)) 0) ∗ bigSep (Finset.range 7) fun i => rbP m c (rsJ i - 1)) := by
    unfold rsGot; rw [bigSep_sep']
  unfold End0 G RW' Env scr
  rw [hd, hg]
  iintro ⟨⟨⟨-, HO, -, -, HaD, -, HaG, HR, HOt, HOut⟩, ⟨-, HsD, HacP⟩, ⟨HsG, HrbP⟩, Hz, ⟨HX, HI, H3, H5, H6⟩, HA, H0⟩, Hown⟩
  ihave H1 := (acc_whole m c) $$ [HacP Hown]
  · isplitl [HacP] <;> iassumption
  ihave H4 := (rb_whole m c) $$ HrbP
  ihave H2 := (st_whole m c) $$ [HR HOt]
  · isplitl [HR] <;> iassumption
  ihave HOut := (out_whole m c) $$ HOut
  ihave Hz := (Entails.of_eq (zeros_intro (F := F) c)) $$ [Hz HsD HsG HaD HaG]
  · isplitl [Hz]; · iexact Hz
    isplitl [HsD]; · iexact HsD
    isplitl [HsG]; · iexact HsG
    isplitl [HaD] <;> iassumption
  isplitl [H0 H1 H2 H3 H4 H5 H6]
  · isplitl [H0]; · iexact H0
    isplitl [H1]; · iexact H1
    isplitl [H2]; · iexact H2
    isplitl [H3]; · iexists _; iexact H3
    isplitl [H4]; · iexact H4
    isplitl [H5]; · iexists _; iexact H5
    iexists _; iexact H6
  isplitl [Hz]; · iexact Hz
  isplitl [HO]; · iexact HO
  isplitl [HX]; · iexact HX
  isplitl [HI]; · iexact HI
  isplitl [HA] <;> iassumption

set_option maxRecDepth 20000 in
def bodyPre (c : Dev nD) : sProp 𝕄 :=
  iprop((start m c ∗ scr (F := F) c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop((scr (F := F) c ∗ zeros (F := F) c) ∗ (dats m ρ 0 c).owesAt () t0_0.succ ∗ stg c cc0_stg0_0 (X m c) ∗ stg c cc0_stg1_0 (RW m c) ∗ stg c cc0_stg2_0 (IX m c)
    ∗ stg c cc0_stg3_0 (EW m c) ∗ stg c cc0_stg4_0 (SW m c) ∗ stg c cc0_stg5_0 (OUT m))

set_option maxHeartbeats 1600000 in
theorem sound_body (c : Dev nD) : bodyPre m ρ c ⊢ Runs c (onBufs (cc0_body (F := F))) (fun _ => bodyPost m ρ c) := by
  unfold bodyPre start
  iintro ⟨⟨⟨⟨%K, Hg⟩, Hcr, Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = X m c := by rw [hg0]; unfold Dat.before; rw [if_pos (fetch0_0 t0_0)]; rfl
  have h1 : g1 = RW m c := by rw [hg1]; unfold Dat.before; rw [if_pos (fetch0_1 t0_0)]; rfl
  have h2 : g2 = IX m c := by rw [hg2]; unfold Dat.before; rw [if_pos (fetch0_2 t0_0)]; rfl
  have h3 : g3 = EW m c := by rw [hg3]; unfold Dat.before; rw [if_pos (fetch0_3 t0_0)]; rfl
  have h4 : g4 = SW m c := by rw [hg4]; unfold Dat.before; rw [if_pos (fetch0_4 t0_0)]; rfl
  subst h0 h1 h2 h3 h4
  unfold scr
  icases Hscr with ⟨S0, S1, S2, S3, S4, S5, S6⟩
  unfold Dat.owesAt Pipeline.owesWithin
  icases Ho with ⟨%W, %hW, HO⟩
  rw [show (dats m ρ 0 c).owed t0_0.castSucc = Osum c 0 from rfl]
  ihave S1 := (acc_cut (F := F) c) $$ S1
  icases S1 with ⟨A6, A2, A4, A1, A0⟩
  ihave S4 := (rb_cut (F := F) c) $$ S4
  ihave S2 := (st_cut (F := F) c) $$ S2
  icases S2 with ⟨ST, SH⟩
  ihave HB := (Entails.of_eq (bar_pay (F := F) c)) $$ [S4 SH]
  · isplitl [S4] <;> iassumption
  ihave HS0 := (start0_intro m K c) $$ [Hg Hcr Hlev HO HB]
  · isplitl [Hg]; · iexact Hg
    isplitl [Hcr]; · iexact Hcr
    isplitl [Hlev]; · iexact Hlev
    isplitl [HO]
    · unfold Ow; iexists W; iexact HO
    iexact HB
  iapply (run_body m K c) $$ [HS0 H0 H1 H2 H3 H4 H5 S0 S3 S5 S6 A6 A2 A4 A1 ST]
  · isplitl [HS0]; · iexact HS0
    unfold Start1 Args
    isplitl [H0]; · iexact H0
    isplitl [H2]; · iexact H2
    isplitl [H1 H3 H4]
    · isplitl [H1]; · iexact H1
      isplitl [H3] <;> iassumption
    isplitl [H5]; · iexists _; iexact H5
    isplitl [S0]; · iexact S0
    isplitl [S3]; · iexact S3
    isplitl [S5]; · iexact S5
    isplitl [S6]; · iexact S6
    isplitl [A6]; · iexact A6
    isplitl [A2]; · iexact A2
    isplitl [A4]; · iexact A4
    isplitl [A1]; · iexact A1
    iexact ST
  iintro HE
  ihave HE := (end_intro m K c) $$ [HE A0]
  · isplitl [HE] <;> iassumption
  unfold Args Ow
  icases HE with ⟨Hs, Hz, ⟨%W', HO⟩, H0, H2, ⟨H1, H3, H4⟩, H5⟩
  rw [Osum_end]
  unfold bodyPost Dat.owesAt Pipeline.owesWithin
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 20000 in
/-- The body obligation on device `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  exact sound_body m ρ c

/-! ## The ghost state at the launch -/

/-- The kernel's own semaphores. -/
abbrev osem : Fin 56 → SemLoc sig := fun k => smk (k.val + 1)
theorem ownSemFacts : Pipeline.OwnSemFacts cfg0.spec osem := by decide

theorem share_eq (c : Dev nD) (w : Fin cfg0.W) : (dats m ρ 0 c).share w = fullShare := by unfold Dat.share; split <;> rfl

theorem cell_injective : Function.Injective (fun ck : Dev nD × Fin 57 => kcell ck.1 ck.2.val) := by
  rintro ⟨c, k⟩ ⟨c', k'⟩ h
  obtain ⟨h1, h2⟩ := kcell_eq k.isLt k'.isLt h
  exact Prod.ext h1 (Fin.ext h2)
/-- All cells, -/
def allCells : Finset (GSem nD τ sig) := Finset.univ.map ⟨_, cell_injective⟩

theorem tok_lt : ∀ n < 63, tokK n < 57 := by decide
theorem tok_inj : ∀ n : Fin 63, ∀ n' : Fin 63, tokK n.val = tokK n'.val → tokD n.val = tokD n'.val → n = n' := by decide +kernel
theorem token_injective : Function.Injective (fun cn : Dev nD × Fin 63 => ((kcell cn.1 (tokK cn.2.val), 0, tokD cn.2.val) : GSem nD τ sig × ℕ × ℕ)) := by
  rintro ⟨c, n⟩ ⟨c', n'⟩ h
  obtain ⟨h1, h2⟩ := kcell_eq (tok_lt _ n.isLt) (tok_lt _ n'.isLt) (congrArg Prod.fst h)
  have h3 : tokD n.val = tokD n'.val := congrArg (fun x : GSem nD τ sig × ℕ × ℕ => x.2.2) h
  exact Prod.ext h1 (tok_inj n n' h2 h3)
/-- and all tokens. -/
def allToks : Finset (GSem nD τ sig × ℕ × ℕ) := Finset.univ.map ⟨_, token_injective⟩

def u₀ : UU :=
  (initOf (Pipeline.cells cfgs cellOf_inj) (Pipeline.launchToks cfgs cellOf_inj), initOf allCells allToks)

/-- What the launch element deals device `c`. -/
def dealt (c : Dev nD) : sProp 𝕄 :=
  iprop((bigSep Finset.univ fun k : Fin 57 => roundState ER (sched m) (kcell c k.val) 0)
    ∗ (bigSep Finset.univ fun k : Fin 57 => iprop(atPos ER (kcell c k.val) 0 ∅ 0 ∗ reached ER (kcell c k.val) 0)) ∗ toks (F := F) c)

/-- What the global step makes of it. -/
def ghosts (c : Dev nD) : sProp 𝕄 := iprop(∃ K, ghost m K c)

theorem fund : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 57 => Φ (kcell c k.val) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => bigSep_fin 63 fun n => dutyTok ER (kcell c (tokK n)) 0 (tokD n)
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- The launch's semaphores are the 57 cells' counters. -/
theorem sems_eq (c : Dev nD) :
    iprop(unscopedSems0 c ∗ Pipeline.ownSems0 (Ix := Unit) (Name := ℕ) (U := UU) (Lvl := ℕ) (Val := Elt F) (τ := τ) osem c) = zeros (F := F) c := by
  have h1 : (unscopedSems0 c : sProp 𝕄) = semVal (kcell c 0) 0 := by
    unfold unscopedSems0; rw [bigSep_eq_bigSepL_of_eq [SemLoc.reg barS] (by decide) (by decide)]; rfl
  have h2 : (Pipeline.ownSems0 (Ix := Unit) (Name := ℕ) (U := UU) (Lvl := ℕ) (Val := Elt F) (τ := τ) osem c : sProp 𝕄) = bigSep (Finset.Ico 1 57) fun k => semVal (kcell c k) 0 := by
    unfold Pipeline.ownSems0
    rw [bigSep_perm (s := Finset.range 56) (t := Finset.Ico 1 57) (fun k => k + 1) (by decide) (fun a _ b _ h => Nat.succ_injective h)]
    exact bigSep_fin 56 fun k => semVal (kcell c (k + 1)) 0
  unfold zeros
  rw [h1, h2, bigSep_two (u := Finset.range 57) (s := {0}) (t := Finset.Ico 1 57) (by decide) (by decide), bigSep_singleton]

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 57 => iprop(∃ κ : ℕ, cellInv ER (sched m) κ (kcell c k.val)))
          ∗ (bigSep Finset.univ fun k : Fin 57 => iprop(atPos ER (kcell c k.val) 0 ∅ 0 ∗ reached ER (kcell c k.val) 0)) ∗ toks (F := F) c) := by
  have hz : zeros (F := F) c = bigSep Finset.univ fun k : Fin 57 => semVal (kcell c k.val) 0 := (bigSep_fin 57 fun k => semVal (kcell c k) 0).symm
  have ha : iprop((bigSep Finset.univ fun k : Fin 57 => semVal (kcell c k.val) 0) ∗ bigSep Finset.univ fun k : Fin 57 => roundState ER (sched m) (kcell c k.val) 0)
      ⊢ (|={Set.univ}=> bigSep Finset.univ fun k : Fin 57 => iprop(∃ κ : ℕ, cellInv ER (sched m) κ (kcell c k.val)) : sProp 𝕄) := by
    rw [← bigSep_sep']
    exact (bigSep_mono fun k _ => (Rounds.body_intro ER (sched m) (kcell c k.val)).trans inv_alloc).trans (bigSep_fupd _ _)
  unfold dealt
  iintro ⟨Hos, Hus, Hst, Hat, Htok⟩
  ihave Hv := (Entails.of_eq ((sems_eq (F := F) c).trans hz)) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

theorem ghost_intro (K : Dev nD × Fin 57 → ℕ) (c : Dev nD) : iprop(records m K ∗ poss (F := F) c ∗ payToks (F := F) c) ⊢ ghosts m c := by
  unfold ghosts ghost
  iintro H
  iexists K
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 57 => iprop(∃ κ : ℕ, cellInv ER (sched m) κ (kcell c k.val)))
          ∗ (bigSep Finset.univ fun k : Fin 57 => iprop(atPos ER (kcell c k.val) 0 ∅ 0 ∗ reached ER (kcell c k.val) 0)) ∗ toks (F := F) c) : sProp 𝕄)
      ⊢ bigSep Finset.univ (ghosts m) := by
  have hp : (bigSep Finset.univ fun c : Dev nD => bigSep Finset.univ fun k : Fin 57 => (atPos ER (kcell c k.val) 0 ∅ 0 : sProp 𝕄)) = bigSep Finset.univ fun c : Dev nD => poss (F := F) c :=
    bigSep_congr fun c _ => bigSep_fin 57 fun k => atPos ER (kcell c k) 0 ∅ 0
  rw [bigSep_sep', bigSep_sep', ← bigSep_univ_prod (fun ck : Dev nD × Fin 57 => iprop(∃ κ : ℕ, cellInv ER (sched m) κ (kcell ck.1 ck.2.val))),
    bigSep_congr (s := Finset.univ) (fun (c : Dev nD) _ => bigSep_sep' Finset.univ (fun k : Fin 57 => (atPos ER (kcell c k.val) 0 ∅ 0 : sProp 𝕄)) (fun k => reached ER (kcell c k.val) 0)),
    bigSep_sep', ← bigSep_univ_prod (fun ck : Dev nD × Fin 57 => (reached ER (kcell ck.1 ck.2.val) 0 : sProp 𝕄)), hp, toks_around]
  iintro ⟨HI, ⟨Hat, #HR⟩, Htok⟩
  ihave HK := (BI.bigSep_exists_pi Finset.univ (fun (ck : Dev nD × Fin 57) (κ : ℕ) => (cellInv ER (sched m) κ (kcell ck.1 ck.2.val) : sProp 𝕄))) $$ HI
  icases HK with ⟨%K, #HI⟩
  iapply (bigSep_with_persistent (R := records m K) fun c _ => ghost_intro m K c)
  isplitr
  · unfold records; isplitl; · iexact HI
    iexact HR
  · rw [bigSep_sep']
    isplitl [Hat] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghosts m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun c => Osum c 0) c ∗ prngReg c (ρ c) ∗ ghosts m c)
      ⊢ |={Set.univ}=> iprop(start m c ∗ emp) := by
  iintro ⟨-, Hlev, Hcr, -, HG⟩
  ihave Hc := (creds_intro (F := F) c) $$ Hcr
  imodintro
  unfold start ghosts
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr (F := F) c) from rfl, show Pipeline.scopedRest cfg0.spec c = scr (F := F) c from scopedRest0_eq c]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr (F := F) c ∗ zeros (F := F) c) from rfl, show Pipeline.scopedRest cfg0.spec c = scr (F := F) c from scopedRest0_eq c,
    ← sems_eq]
  iintro ⟨Hr, HzB, HzS⟩
  isplitl [HzB]; · iexact HzB
  isplitl [HzS] <;> iassumption

omit [FloatOps F] in
theorem mayWait_stage (c : Dev nD) (q : DmaSem sig) (hq : kof (.dma q) = 99) (O : CellTallies nD τ sig Unit) (hO : O = Osum c 0 ∨ O = 0) :
    (levAts L lv : sProp 𝕄) ⊢ MayWait (c : Thread nD τ) (.dma q) () O := by
  rcases hO with rfl | rfl
  · exact mayWait c _ 0 (by rw [hq]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each device's arrays after the run. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 20000 in
/-- On the eight devices, for any float values and from any memory with zero counters, every weakly fair execution ends,
    with each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Osum c 0) (howed₀ := fun _ => rfl) (howedN := fun _ => rfl)
    (L := L) (lv := lv) (hL := L_of_ne) (hwaits := waits m ρ)
    (G := dealt m) (G' := ghosts m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.Runs.lean ====
/-
# What the two programs end with

The kernel's run, read at its result and argument arrays: each device's result array ends at the computed contents,
each argument array as it started.
-/
module

public import proofs.«01_k».proof.Proof.Launch

@[expose] public section

noncomputable section

namespace Cert.KernelIdeal.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result window's one block is its whole array. -/
theorem cover5 (i : S1024x512.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  intro a
  have h := (i a).isLt
  fin_cases a
  · exact ⟨Nat.zero_le _, h⟩
  · exact ⟨Nat.zero_le _, h⟩

/-- A buffer cut to the window's block is its read through the block, -/
theorem cut5 (t : Fin cfg0.N) (G : S1024x512.Idx → Elt F .f32) :
    (cfg0.win 5).cut (cfg0.grid.coords t) G = ((cfg0.win 5).blk t).view.read (Elt F) G := by
  obtain rfl := fin_N0 t
  refine funext fun j => congrArg G (funext fun a => Fin.ext ?_)
  fin_cases a
  · show (j 0).val = 0 * 1024 + 1 * (j 0).val
    omega
  · show (j 1).val = 0 * 512 + 1 * (j 1).val
    omega

/-- and the block written back is the computed result. -/
theorem flushed5 (c : Dev nD) (t : Fin cfg0.N) :
    (dats m ρ 0 c).flushed 5 t = ((cfg0.win 5).blk t).view.read (Elt F) (OUT m) :=
  cut5 t (OUT m)

/-- So each device's result array ends at it. -/
theorem arrAt5 (c : Dev nD) : (dats m ρ 0 c).arrAt 5 cfg0.N = OUT m :=
  (dats m ρ 0 c).arrAt_eq_of_cover 5 (OUT m) (fun t _ => flushed5 m ρ c t) cover5

/-- A device's arrays after the run. -/
theorem QC_arrays {r : PUnit × MemSt nD τ sig (Elt F)} (h : QC m ρ r) (c : Dev nD) :
    r.2.mem ((c.tc : Thread nD τ).loc main_v1) = OUT m
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 5).trans (arrAt5 m ρ c), (h c 0).trans ((dats m ρ 0 c).arrAt_in 0 rfl _), (h c 1).trans ((dats m ρ 0 c).arrAt_in 1 rfl _),
    (h c 2).trans ((dats m ρ 0 c).arrAt_in 2 rfl _), (h c 3).trans ((dats m ρ 0 c).arrAt_in 3 rfl _), (h c 4).trans ((dats m ρ 0 c).arrAt_in 4 rfl _)⟩

end Cert.KernelIdeal.Moe

end
-- ==== Proof.Payloads.lean ====
/-
# The kernel's values, index by index, over the extended reals

Each product the kernel takes, read at one row and one column: four experts' parts, each kept only
for the rows routed to that expert, and the shared part.
-/
module

public import proofs.«01_k».proof.Proof.Contents
public import Idealize.ShloMosaic.Lib.Pointwise
public import Idealize.ShloMosaic.Lib.IdealHost
public import Idealize.ShloMosaic.Lib.WordCmp

@[expose] public section

set_option maxRecDepth 16384

noncomputable section

namespace Cert.KernelIdeal.Moe

open Cert.KernelIdeal Cert.KernelIdeal.Gen
open Idealize.ShloMosaic
open Idealize.SL.Sem

/-! ## Sums and choices -/

/-- A choice on the equality of two words. -/
theorem select_eq {α : Type} (a b : BitVec 32) (x y : α) : Scalar.select (IntOp.cmpi .eq a b) x y = if a = b then x else y := by
  rw [WordCmp.cmpi_eq_eq, Scalar.select_decide]

/-- A sum over 1280 columns is the sum over its five blocks of 256. -/
theorem sum_1280 (f : Fin 1280 → EReal) :
    ∑ x, f x = ∑ j : Fin 5, ∑ k : Fin 256, f ⟨k.val + 256 * j.val, by omega⟩ := by
  rw [← Fintype.sum_prod_type' (f := fun (j : Fin 5) (k : Fin 256) => f ⟨k.val + 256 * j.val, by omega⟩)]
  exact (Fintype.sum_equiv (finProdFinEquiv (m := 5) (n := 256)) _ _ fun _ => rfl).symm

/-- Seven terms added in the order the kernel adds them. -/
theorem sum_order (a : EReal) (p : Fin 7 → EReal) : a + p 5 + p 6 + p 1 + p 2 + p 3 + p 4 + p 0 = a + ∑ j, p j := by
  rw [Fin.sum_univ_seven]
  ac_rfl

/-- A product whose left row is made of five blocks side by side. -/
theorem ladder (a : Fin 4 → Fin 256 → EReal) (b : Fin 256 → EReal) (w : Fin 1280 → EReal) :
    (∑ x : Fin 1280, (if h : x.val < 256 then a 0 ⟨x.val, h⟩ else if h : x.val - 256 < 256 then a 1 ⟨x.val - 256, h⟩
        else if h : x.val - 256 - 256 < 256 then a 2 ⟨x.val - 256 - 256, h⟩
        else if h : x.val - 256 - 256 - 256 < 256 then a 3 ⟨x.val - 256 - 256 - 256, h⟩
        else b ⟨x.val - 256 - 256 - 256 - 256, by omega⟩) * w x)
      = (∑ j : Fin 4, ∑ k : Fin 256, a j k * w ⟨k.val + 256 * j.val, by omega⟩) + ∑ k : Fin 256, b k * w ⟨k.val + 1024, by omega⟩ := by
  rw [sum_1280, Fin.sum_univ_castSucc]
  refine congrArg₂ _ (Finset.sum_congr rfl fun j _ => Finset.sum_congr rfl fun k _ => ?_) (Finset.sum_congr rfl fun k _ => ?_)
  · refine congrArg (· * w _) ?_
    have hk := k.isLt
    fin_cases j
    · rw [dif_pos (by show k.val + 256 * 0 < 256; omega)]; rfl
    · rw [dif_neg (by show ¬ k.val + 256 * 1 < 256; omega), dif_pos (by show k.val + 256 * 1 - 256 < 256; omega)]
      exact congrArg (a 1) (Fin.ext (by show k.val + 256 * 1 - 256 = k.val; omega))
    · rw [dif_neg (by show ¬ k.val + 256 * 2 < 256; omega), dif_neg (by show ¬ k.val + 256 * 2 - 256 < 256; omega),
        dif_pos (by show k.val + 256 * 2 - 256 - 256 < 256; omega)]
      exact congrArg (a 2) (Fin.ext (by show k.val + 256 * 2 - 256 - 256 = k.val; omega))
    · rw [dif_neg (by show ¬ k.val + 256 * 3 < 256; omega), dif_neg (by show ¬ k.val + 256 * 3 - 256 < 256; omega),
        dif_neg (by show ¬ k.val + 256 * 3 - 256 - 256 < 256; omega), dif_pos (by show k.val + 256 * 3 - 256 - 256 - 256 < 256; omega)]
      exact congrArg (a 3) (Fin.ext (by show k.val + 256 * 3 - 256 - 256 - 256 = k.val; omega))
  · refine congrArg (· * w _) ?_
    have hk := k.isLt
    rw [dif_neg (by show ¬ k.val + 256 * 4 < 256; omega), dif_neg (by show ¬ k.val + 256 * 4 - 256 < 256; omega),
      dif_neg (by show ¬ k.val + 256 * 4 - 256 - 256 < 256; omega), dif_neg (by show ¬ k.val + 256 * 4 - 256 - 256 - 256 < 256; omega)]
    exact congrArg b (Fin.ext (by show k.val + 256 * 4 - 256 - 256 - 256 - 256 = k.val; omega))

/-! ## One row of a local product -/

/-- A row's product on the device with word `d`: `q` is the row's expert, `g` its weight, `x` the
row, `b` the row rounded, `w` the column. -/
def rowDot (d q : BitVec 32) (g : EReal) (x b : Fin 256 → EReal) (w : Fin 1280 → EReal) : EReal :=
  (∑ j : Fin 4, ∑ k : Fin 256, (if q = d * 4#32 + BitVec.ofNat 32 j.val then x k * g else 0) * w ⟨k.val + 256 * j.val, by omega⟩)
    + ∑ k : Fin 256, b k * w ⟨k.val + 1024, by omega⟩

variable (d : BitVec 32) (w : FVec Ideal S1280x512 .bf16) (h : Fin 512)

/-- The product of 256 rows, -/
theorem pay8_apply (b : FVec Ideal S256x256 .bf16) (q : IVec S256x1 32) (g : FVec Ideal S256x1 .f32) (x : FVec Ideal S256x256 .f32) (r : Fin 256) :
    k0_pay8 (F := Ideal) d b (k0_pay6 (F := Ideal) q) g (k0_pay7 x) w (ix2 r h)
      = rowDot d (q (ix2 r 0)) (g (ix2 r 0)) (fun k => x (ix2 r k)) (fun k => b (ix2 r k)) fun k => w (ix2 k h) := by
  pointwise [k0_pay8, k0_pay7, k0_pay6]
  simp only [select_eq]
  exact ladder (fun j k => if q (ix2 r 0) = d * 4#32 + BitVec.ofNat 32 j.val then x (ix2 r k) * g (ix2 r 0) else 0) (fun k => b (ix2 r k)) fun k => w (ix2 k h)

/-- of 128 rows, rounded, -/
theorem pay20_apply (b : FVec Ideal S128x256 .bf16) (q : IVec S128x1 32) (g : FVec Ideal S128x1 .f32) (x : FVec Ideal S128x256 .f32) (r : Fin 128) :
    k0_pay21 (F := Ideal) (k0_pay20 (F := Ideal) d b q g x w) (ix2 r h)
      = rowDot d (q (ix2 r 0)) (g (ix2 r 0)) (fun k => x (ix2 r k)) (fun k => b (ix2 r k)) fun k => w (ix2 k h) := by
  pointwise [k0_pay20, k0_pay21]
  simp only [select_eq]
  exact ladder (fun j k => if q (ix2 r 0) = d * 4#32 + BitVec.ofNat 32 j.val then x (ix2 r k) * g (ix2 r 0) else 0) (fun k => b (ix2 r k)) fun k => w (ix2 k h)

/-- and of 128 rows, not rounded. -/
theorem pay26_apply (b : FVec Ideal S128x256 .bf16) (q : IVec S128x1 32) (g : FVec Ideal S128x1 .f32) (x : FVec Ideal S128x256 .f32) (r : Fin 128) :
    k0_pay26 (F := Ideal) d b (k0_pay22 (F := Ideal) q) (k0_pay23 g x) k0_pay24 (k0_pay25 d) w (ix2 r h)
      = rowDot d (q (ix2 r 0)) (g (ix2 r 0)) (fun k => x (ix2 r k)) (fun k => b (ix2 r k)) fun k => w (ix2 k h) := by
  pointwise [k0_pay26, k0_pay25, k0_pay24, k0_pay23, k0_pay22]
  simp only [select_eq]
  exact ladder (fun j k => if q (ix2 r 0) = d * 4#32 + BitVec.ofNat 32 j.val then x (ix2 r k) * g (ix2 r 0) else 0) (fun k => b (ix2 r k)) fun k => w (ix2 k h)

/-! ## The other values -/

/-- A row's scores, -/
def score (x : FVec Ideal S1024x256 .f32) (w : FVec Ideal S256x32 .f32) (n : Fin 1024) (e : Fin 32) : EReal :=
  ∑ k : Fin 256, x (ix2 n k) * w (ix2 k e)

/-- and the probabilities of the experts for a row of scores. -/
def prob (s : Fin 32 → EReal) (e : Fin 32) : EReal :=
  Ideal.div (Ideal.exp (s e - Finset.fold max (Ideal.ofBits .f32 0xFF800000#32) s Finset.univ))
    (∑ e' : Fin 32, Ideal.exp (s e' - Finset.fold max (Ideal.ofBits .f32 0xFF800000#32) s Finset.univ))

/-- The weight of a row: the probability of its expert. -/
theorem pay1_apply (x : FVec Ideal S1024x256 .f32) (w : FVec Ideal S256x32 .f32) (q : IVec S1024x1 32) (n : Fin 1024) (z : Fin 1) :
    k0_pay1 (F := Ideal) x w q (ix2 n z) = ∑ e : Fin 32, if BitVec.ofNat 32 e.val = q (ix2 n 0) then prob (score x w n) e else 0 := by
  pointwise [k0_pay1]
  simp only [select_eq]
  rfl

theorem pay3_apply (x : FVec Ideal S1024x256 .f32) (n : Fin 1024) (k : Fin 256) : k0_pay3 (F := Ideal) (k0_pay2 x) (ix2 n k) = (x (ix2 n k) : EReal) := by
  pointwise [k0_pay3, k0_pay2]

theorem pay4_apply (w : FVec Ideal S4x256x512 .f32) (r : Fin 1024) (h : Fin 512) :
    k0_pay4 (F := Ideal) w (ix2 r h) = w (ix3 ⟨r.val / 256, by omega⟩ ⟨r.val % 256, by omega⟩ h) := by
  pointwise [k0_pay4]

theorem pay5_apply (w : FVec Ideal S256x512 .f32) (r : Fin 256) (h : Fin 512) :
    k0_pay5 (F := Ideal) w (ix2 r h) = w (ix2 r h) * Ideal.ofBits .f32 0x3E000000#32 := by
  pointwise [k0_pay5]

/-- The device's own rows and the seven received parts, in the order they are added. -/
theorem pay29_apply (a : FVec Ideal S128x512 .f32) (p : Fin 7 → FVec Ideal S1x128x512 .bf16) (r : Fin 128) :
    k0_pay29 (F := Ideal) (k0_pay28 (k0_pay27 a (p 5) (p 6) (p 1)) (p 2) (p 3)) (p 4) (p 0) (ix2 r h)
      = (a (ix2 r h) : EReal) + ∑ j : Fin 7, p j (ix3 0 r h) := by
  pointwise [k0_pay29, k0_pay28, k0_pay27]
  exact sum_order (a (ix2 r h)) fun j => p j (ix3 0 r h)

/-- The reciprocal of the number of devices. -/
theorem eighth : Ideal.ofBits .f32 0x3E000000#32 = ((1 / 8 : ℝ) : EReal) := by
  simp [Ideal.ofBits, Ideal.ieee, -EReal.coe_mul]; norm_num

end Cert.KernelIdeal.Moe

end
-- ==== Proof.Values.lean ====
/-
# The gathered result, index by index

Each element of the result is the sum over the eight devices of that row's product there.
-/
module

public import proofs.«01_k».proof.Proof.Payloads

@[expose] public section

set_option maxRecDepth 16384

noncomputable section

namespace Cert.KernelIdeal.Moe

open Cert.KernelIdeal Cert.KernelIdeal.Gen
open Idealize.ShloMosaic
open Idealize.SL.Sem

theorem pair_ix2 {a b : ℕ} (r : Fin a) (c : Fin b) : Shape.pair (d := ![a, b]) r c = ix2 r c := by
  funext i
  match i with
  | ⟨0, _⟩ => rfl
  | ⟨1, _⟩ => rfl

theorem cons_eq {a b c : ℕ} (j : Fin a) (i : Fin 1) (r : Fin b) (h : Fin c) :
    (Fin.cons (α := fun x => Fin ((![a, b, c] : Fin 3 → ℕ) x)) j (fun x : Fin 2 => ix3 i r h x.succ)) = ix3 j r h := by
  funext i
  match i with
  | ⟨0, _⟩ => rfl
  | ⟨1, _⟩ => rfl
  | ⟨2, _⟩ => rfl

/-- A row of a block of rows is the row of the array. -/
theorem rows_apply {α : Type} {k l : ℕ} (x : (⟨2, ![1024, l]⟩ : Shape).Idx → α) {o : ℕ} {r : Fin k} (j : Fin l) (n : Fin 1024) (h : o + r.val = n.val) :
    rows k x o (ix2 r j) = x (ix2 n j) := by
  unfold rows
  have e : (⟨(o + r.val) % 1024, Nat.mod_lt _ (by decide)⟩ : Fin 1024) = n := Fin.ext (by show (o + r.val) % 1024 = n.val; omega)
  exact congrArg x ((congrArg (fun a => Shape.pair (d := ![1024, l]) a j) e).trans (pair_ix2 n j))

/-- The row `n` of an array made of blocks is in block `n / k`. -/
theorem tiles_apply {α : Type} {k l : ℕ} (hk : 0 < k) (T : ℕ → (⟨2, ![k, l]⟩ : Shape).Idx → α) (n : Fin 1024) (h : Fin l) :
    tiles k hk T (ix2 n h) = T (n.val / k * k) (ix2 ⟨n.val % k, Nat.mod_lt _ hk⟩ h) :=
  congrArg (T (n.val / k * k)) (pair_ix2 (a := k) (b := l) ⟨n.val % k, Nat.mod_lt _ hk⟩ h)

variable (m : (ℓ : Loc nD τ sig) → Buf (Elt Ideal) ℓ)

/-! ## The arguments are the launch memory's arrays -/

theorem X_eq (c : Dev nD) : X m c = m ((c.tc : Thread nD τ).loc main_arg0) := by
  refine funext fun j => congrArg (m ((c.tc : Thread nD τ).loc main_arg0)) (funext fun a => Fin.ext ?_)
  fin_cases a
  · show 0 * 1024 + 1 * (j 0).val = (j 0).val; omega
  · show 0 * 256 + 1 * (j 1).val = (j 1).val; omega

theorem RW_eq (c : Dev nD) : RW m c = m ((c.tc : Thread nD τ).loc main_arg1) := by
  refine funext fun j => congrArg (m ((c.tc : Thread nD τ).loc main_arg1)) (funext fun a => Fin.ext ?_)
  fin_cases a
  · show 0 * 256 + 1 * (j 0).val = (j 0).val; omega
  · show 0 * 32 + 1 * (j 1).val = (j 1).val; omega

theorem IX_eq (c : Dev nD) : IX m c = m ((c.tc : Thread nD τ).loc main_arg2) := by
  refine funext fun j => congrArg (m ((c.tc : Thread nD τ).loc main_arg2)) (funext fun a => Fin.ext ?_)
  fin_cases a
  · show 0 * 1024 + 1 * (j 0).val = (j 0).val; omega
  · show 0 * 1 + 1 * (j 1).val = (j 1).val; omega

theorem EW_eq (c : Dev nD) : EW m c = m ((c.tc : Thread nD τ).loc main_arg3) := by
  refine funext fun j => congrArg (m ((c.tc : Thread nD τ).loc main_arg3)) (funext fun a => Fin.ext ?_)
  fin_cases a
  · show 0 * 4 + 1 * (j 0).val = (j 0).val; omega
  · show 0 * 256 + 1 * (j 1).val = (j 1).val; omega
  · show 0 * 512 + 1 * (j 2).val = (j 2).val; omega

theorem SW_eq (c : Dev nD) : SW m c = m ((c.tc : Thread nD τ).loc main_arg4) := by
  refine funext fun j => congrArg (m ((c.tc : Thread nD τ).loc main_arg4)) (funext fun a => Fin.ext ?_)
  fin_cases a
  · show 0 * 256 + 1 * (j 0).val = (j 0).val; omega
  · show 0 * 512 + 1 * (j 1).val = (j 1).val; omega

/-! ## From one device's products to the result -/

/-- The product of row `n` and column `h` on device `c`. -/
def part (c : Dev nD) (n : Fin 1024) (h : Fin 512) : EReal :=
  rowDot (wd c) (IX m c (ix2 n 0)) (GT m c (ix2 n 0)) (fun k => X m c (ix2 n k)) (fun k => XB m c (ix2 n k)) fun k => WC m c (ix2 k h)

theorem T256_apply (c : Dev nD) (o : ℕ) (r : Fin 256) (h : Fin 512) (n : Fin 1024) (hn : o + r.val = n.val) : T256 m c o (ix2 r h) = part m c n h := by
  unfold T256 part
  rw [pay8_apply, rows_apply (IX m c) 0 n hn, rows_apply (GT m c) 0 n hn]
  simp only [rows_apply _ _ n hn]

theorem T128_apply (c : Dev nD) (o : ℕ) (r : Fin 128) (h : Fin 512) (n : Fin 1024) (hn : o + r.val = n.val) : T128 m c o (ix2 r h) = part m c n h := by
  unfold T128 part
  rw [pay20_apply, rows_apply (IX m c) 0 n hn, rows_apply (GT m c) 0 n hn]
  simp only [rows_apply _ _ n hn]

theorem AC_apply (c : Dev nD) (r : Fin 128) (h : Fin 512) (n : Fin 1024) (hn : vt c.val * 128 + r.val = n.val) : AC m c (ix2 r h) = part m c n h := by
  have hn' : cRow c 0 + r.val = n.val := by rw [cRow_self]; exact hn
  unfold AC part
  rw [pay26_apply, rows_apply (IX m c) 0 n hn', rows_apply (GT m c) 0 n hn']
  simp only [rows_apply _ _ n hn']

theorem AB_apply (c : Dev nD) (n : Fin 1024) (h : Fin 512) : AB m c (ix2 n h) = part m c n h := by
  unfold AB
  split
  · exact (tiles_apply _ _ n h).trans (T128_apply m c _ _ h n (Nat.div_add_mod' n.val 128))
  · exact (tiles_apply _ _ n h).trans (T256_apply m c _ _ h n (Nat.div_add_mod' n.val 256))

theorem RBs_apply (c : Dev nD) (j : Fin 7) (r : Fin 128) (h : Fin 512) (n : Fin 1024) (hn : vt c.val * 128 + r.val = n.val) :
    RBs m c j (ix3 0 r h) = part m (xr c (j.val + 1)) n h := by
  have e : (⟨(vt c.val * 128 + r.val) % 1024, Nat.mod_lt _ (by decide)⟩ : Fin 1024) = n := Fin.ext (by show (vt c.val * 128 + r.val) % 1024 = n.val; omega)
  refine Eq.trans ?_ (AB_apply m (xr c (j.val + 1)) n h)
  exact congrArg (AB m (xr c (j.val + 1))) ((congrArg (fun a => Shape.pair (d := ![1024, 512]) a h) e).trans (pair_ix2 n h))

/-- The devices seen from device `c`, each once. -/
theorem sum_xr (c : Dev nD) (f : Dev nD → EReal) : f c + ∑ j : Fin 7, f (xr c (j.val + 1)) = ∑ d : Fin 8, f d := by
  have hb : Function.Bijective fun j : Fin 8 => xr c j.val :=
    Finite.injective_iff_bijective.mp fun a b e => Fin.ext (xr_inj c a.val a.isLt b.val b.isLt e)
  have h0 : xr c 0 = c := by revert c; decide
  rw [← Function.Bijective.sum_comp hb f, Fin.sum_univ_succ]
  exact congrArg₂ _ (congrArg f h0.symm) rfl

theorem RED_apply (c : Dev nD) (r : Fin 128) (h : Fin 512) (n : Fin 1024) (hn : vt c.val * 128 + r.val = n.val) :
    RED m c (ix2 r h) = ∑ d : Fin 8, part m d n h := by
  unfold RED
  refine (pay29_apply h (AC m c) (RBs m c) r).trans ?_
  rw [AC_apply m c r h n hn, ← sum_xr c fun d => part m d n h]
  exact congrArg _ (Finset.sum_congr rfl fun j _ => RBs_apply m c j r h n hn)

/-- The result, at any row and column. -/
theorem OUT_apply (n : Fin 1024) (h : Fin 512) : OUT m (ix2 n h) = ∑ d : Fin 8, part m d n h := by
  have hv : ∀ q : Fin 8, vt (vt q.val % 8) = q.val := by decide
  have hq : n.val / 128 < 8 := by omega
  refine (tiles_apply (k := 128) (by decide) (fun o => RED m ⟨vt (o / 128) % 8, Nat.mod_lt _ (by decide)⟩) n h).trans
    (RED_apply m _ ⟨n.val % 128, Nat.mod_lt _ (by decide)⟩ h n ?_)
  show vt (vt (n.val / 128 * 128 / 128) % 8) * 128 + n.val % 128 = n.val
  rw [Nat.mul_div_cancel _ (by decide), hv ⟨n.val / 128, hq⟩]
  exact Nat.div_add_mod' n.val 128

end Cert.KernelIdeal.Moe

end
-- ==== Proof.Algebra.lean ====
/-
# The algebra of one element of the result

The kernel puts a row's weight inside the product with its expert, and adds an eighth of the shared
product on each of the eight devices.  The reference weighs each expert's product from outside and
adds the shared product once.  The two agree where the weights are real and not negative.
-/
module

public import proofs.«01_k».proof.Proof.Payloads

@[expose] public section

noncomputable section

namespace Cert.KernelIdeal.Moe

open Cert.KernelIdeal Cert.KernelIdeal.Gen
open Idealize.ShloMosaic
open Idealize.SL.Sem

/-! ## The probabilities of finite scores are real and not negative -/

theorem bot_bits : Ideal.ofBits .f32 0xFF800000#32 = (⊥ : EReal) := by
  simp [Ideal.ofBits, Ideal.ieee]

theorem top_bits : Ideal.ofBits .f32 0x7F800000#32 = (⊤ : EReal) := by
  simp [Ideal.ofBits, Ideal.ieee]

/-- A sum of reals is real. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The score of a finite row is real. -/
theorem score_real (x : FVec Ideal S1024x256 .f32) (w : FVec Ideal S256x32 .f32) (hx : ∀ i, ∃ r : ℝ, x i = (r : EReal)) (hw : ∀ i, ∃ r : ℝ, w i = (r : EReal))
    (n : Fin 1024) : ∃ s : Fin 32 → ℝ, ∀ e, score x w n e = (s e : EReal) := by
  choose a ha using hx
  choose b hb using hw
  refine ⟨fun e => ∑ k : Fin 256, a (ix2 n k) * b (ix2 k e), fun e => ?_⟩
  rw [← coe_sum]
  refine Finset.sum_congr rfl fun k _ => ?_
  rw [ha, hb, EReal.coe_mul]

/-- The greatest of finitely many reals is real. -/
theorem max_real (s : Fin 32 → ℝ) : ∃ M : ℝ, Finset.fold max (⊥ : EReal) (fun e => (s e : EReal)) Finset.univ = (M : EReal) := by
  have ht : Finset.fold max (⊥ : EReal) (fun e => (s e : EReal)) Finset.univ < ⊤ :=
    (Finset.fold_max_lt _).mpr ⟨bot_lt_top, fun e _ => EReal.coe_lt_top _⟩
  have hb : (⊥ : EReal) < Finset.fold max (⊥ : EReal) (fun e => (s e : EReal)) Finset.univ :=
    lt_of_lt_of_le (EReal.bot_lt_coe (s 0)) (Finset.le_fold_max _ |>.mpr (Or.inr ⟨0, Finset.mem_univ _, le_refl _⟩))
  exact ⟨_, (EReal.coe_toReal ht.ne hb.ne').symm⟩

/-- So the probabilities are. -/
theorem prob_real (s : Fin 32 → ℝ) (e : Fin 32) : ∃ p : ℝ, 0 ≤ p ∧ prob (fun e => (s e : EReal)) e = (p : EReal) := by
  obtain ⟨M, hM⟩ := max_real s
  have hs : (0 : ℝ) < ∑ e' : Fin 32, Real.exp (s e' - M) := Finset.sum_pos (fun _ _ => Real.exp_pos _) ⟨0, Finset.mem_univ _⟩
  have hexp : ∀ e', Ideal.exp ((s e' : EReal) - (M : EReal)) = ((Real.exp (s e' - M) : ℝ) : EReal) := fun e' => by
    rw [← EReal.coe_sub]; rfl
  refine ⟨Real.exp (s e - M) / ∑ e' : Fin 32, Real.exp (s e' - M), div_nonneg (Real.exp_pos _).le hs.le, ?_⟩
  unfold prob
  rw [bot_bits, hM, hexp, Finset.sum_congr rfl fun e' _ => hexp e', coe_sum, Ideal.div, if_neg (by exact_mod_cast hs.ne'), div_eq_mul_inv, EReal.coe_mul, EReal.coe_inv]

/-! ## Sums over the devices -/

/-- Eight eighths of an extended real are that number. -/
theorem eight_eighths (y : EReal) : ∑ _d : Fin 8, y * ((1 / 8 : ℝ) : EReal) = y := by
  induction y with
  | bot => rw [EReal.bot_mul_coe_of_pos (by norm_num), Fin.sum_univ_eight]; simp
  | top => rw [EReal.top_mul_coe_of_pos (by norm_num), Fin.sum_univ_eight]; simp
  | coe r =>
    rw [← EReal.coe_mul, coe_sum, Fin.sum_univ_eight]
    congr 1
    ring

/-- The four experts of each of the eight devices are the thirty-two. -/
theorem sum_experts (f : Fin 32 → EReal) : ∑ d : Fin 8, ∑ j : Fin 4, f ⟨j.val + 4 * d.val, by omega⟩ = ∑ e, f e := by
  rw [← Fintype.sum_prod_type' (f := fun (d : Fin 8) (j : Fin 4) => f ⟨j.val + 4 * d.val, by omega⟩)]
  exact Fintype.sum_equiv (finProdFinEquiv (m := 8) (n := 4)) _ _ fun _ => rfl

/-- A real factor that is not negative goes through a sum of extended reals. -/
theorem mul_sum_real {ι : Type} (p : ℝ) (hp : 0 ≤ p) (s : Finset ι) (f : ι → EReal) : (p : EReal) * ∑ i ∈ s, f i = ∑ i ∈ s, (p : EReal) * f i := by
  classical
  induction s using Finset.induction_on with
  | empty => simp
  | insert a s ha ih =>
    rw [Finset.sum_insert ha, Finset.sum_insert ha, ← ih]
    exact EReal.left_distrib_of_nonneg_of_ne_top (by exact_mod_cast hp) (EReal.coe_ne_top _) _ _

/-- Words of experts. -/
theorem word_inj : ∀ e e' : Fin 32, BitVec.ofNat 32 e'.val = BitVec.ofNat 32 e.val ↔ e' = e := by decide +kernel

/-- The weight of a row routed to expert `e` is that expert's probability. -/
theorem gate_eq (P : Fin 32 → EReal) (e : Fin 32) : (∑ e' : Fin 32, if BitVec.ofNat 32 e'.val = BitVec.ofNat 32 e.val then P e' else 0) = P e := by
  rw [Finset.sum_congr rfl fun e' _ => if_congr (word_inj e e') rfl rfl]
  exact (Finset.sum_ite_eq' Finset.univ e P).trans (if_pos (Finset.mem_univ e))

/-- One expert's part: the weight inside the product or outside it. -/
theorem expert_eq (q : BitVec 32) (x : Fin 256 → EReal) (P : Fin 32 → EReal) (hP : ∀ e, ∃ p : ℝ, 0 ≤ p ∧ P e = (p : EReal)) (e : Fin 32) (W : Fin 256 → EReal) :
    (∑ k : Fin 256, (if q = BitVec.ofNat 32 e.val then x k * (∑ e' : Fin 32, if BitVec.ofNat 32 e'.val = q then P e' else 0) else 0) * W k)
      = (if q = BitVec.ofNat 32 e.val then P e else 0) * ∑ k : Fin 256, x k * W k := by
  by_cases hq : q = BitVec.ofNat 32 e.val
  · subst hq
    simp only [if_true]
    rw [gate_eq]
    obtain ⟨p, hp, he⟩ := hP e
    rw [he, mul_sum_real p hp]
    exact Finset.sum_congr rfl fun k _ => by rw [mul_comm (x k), mul_assoc]
  · simp only [if_neg hq, zero_mul, Finset.sum_const_zero]

/-- The word of each device's experts. -/
theorem word_expert : ∀ (d : Dev nD) (j : Fin 4), wd d * 4#32 + BitVec.ofNat 32 j.val = BitVec.ofNat 32 (j.val + 4 * d.val) := by decide +kernel

/-- The element: the sum over the devices is the shared product and the weighed products of the experts. -/
theorem element (q : BitVec 32) (x : Fin 256 → EReal) (P : Fin 32 → EReal) (hP : ∀ e, ∃ p : ℝ, 0 ≤ p ∧ P e = (p : EReal))
    (W : Fin 32 → Fin 256 → EReal) (S : Fin 256 → EReal) (wc : Dev nD → Fin 1280 → EReal)
    (hW : ∀ (d : Dev nD) (j : Fin 4) (k : Fin 256), wc d ⟨k.val + 256 * j.val, by omega⟩ = W ⟨j.val + 4 * d.val, by have : d.val < 8 := d.isLt; omega⟩ k)
    (hS : ∀ (d : Dev nD) (k : Fin 256), wc d ⟨k.val + 1024, by omega⟩ = S k * ((1 / 8 : ℝ) : EReal)) :
    (∑ d : Fin 8, rowDot (wd d) q (∑ e' : Fin 32, if BitVec.ofNat 32 e'.val = q then P e' else 0) x x (wc d))
      = (∑ k : Fin 256, x k * S k) + ∑ e : Fin 32, (if q = BitVec.ofNat 32 e.val then P e else 0) * ∑ k : Fin 256, x k * W e k := by
  unfold rowDot
  rw [Finset.sum_add_distrib, add_comm]
  refine congrArg₂ _ ?_ ?_
  · rw [Finset.sum_comm]
    refine Finset.sum_congr rfl fun k _ => ?_
    refine Eq.trans (Finset.sum_congr rfl fun d _ => ?_) (eight_eighths (x k * S k))
    rw [hS, mul_assoc]
  · refine Eq.trans ?_ (sum_experts fun e => (if q = BitVec.ofNat 32 e.val then P e else 0) * ∑ k : Fin 256, x k * W e k)
    refine Finset.sum_congr rfl fun d _ => Finset.sum_congr rfl fun j _ => ?_
    refine Eq.trans (Finset.sum_congr rfl fun k _ => ?_) (expert_eq q x P hP ⟨j.val + 4 * d.val, by omega⟩ (W ⟨j.val + 4 * d.val, by omega⟩))
    rw [hW, word_expert]

end Cert.KernelIdeal.Moe

end
-- ==== Proof.Result.lean ====
/-
# The result is the reference's

Under equal arguments, the experts dealt four to a device, with finite rows and finite router.
-/
module

public import proofs.«01_k».proof.Proof.Values
public import proofs.«01_k».proof.Proof.Algebra
public import proofs.«01_k».proof.Proof.Gen.ReferenceIdeal
public import proofs.«01_k».proof.Defs
public import Idealize.ShloMosaic.Lib.ReduceAll

@[expose] public section

set_option maxRecDepth 16384

noncomputable section

/-! ## The shapes of the precondition -/

instance Cert.Pre_finite_KernelIdeal.facts : Cert.Pre_finite_KernelIdeal.Facts where
  bcast_S_S1024x256 := by decide
  reducesTo_S1024x256_S_d0_1 := by decide
  h_S_ := by decide
  bcast_S_S256x32 := by decide
  reducesTo_S256x32_S_d0_1 := by decide

instance Cert.Pre_finite_ReferenceIdeal.facts : Cert.Pre_finite_ReferenceIdeal.Facts where
  bcast_S_S1024x256 := by decide
  reducesTo_S1024x256_S_d0_1 := by decide
  h_S_ := by decide
  bcast_S_S256x32 := by decide
  reducesTo_S256x32_S_d0_1 := by decide

/-! ## The reference -/

namespace Cert.ReferenceIdeal

open Cert.ReferenceIdeal.Gen
open Idealize.ShloMosaic
open Idealize.SL.Sem
open Cert.KernelIdeal.Moe (score prob)

variable (x : FVec Ideal S1024x256 .f32) (w : FVec Ideal S256x32 .f32) (q : IVec S1024x1 32) (W : FVec Ideal S32x256x512 .f32) (S : FVec Ideal S256x512 .f32)

/-- The exponentials of the scores, each row's greatest taken off. -/
def exps : FVec Ideal S1024x32 .f32 :=
  have s : FVec Ideal S1024x32 .f32 := Host.dotGeneral dot_S1024x256_S256x32_S1024x32_1_0_0_1_n_n none x w
  Host.exp (subf s (broadcastInDim S1024x32 ![0, 1] bcast_S1024x1_S1024x32_0_1 (broadcastInDim S1024x1 ![0] bcast_S1024_S1024x1_0
    (Host.reduce FloatOps.maximumf s (constant S_ .f32 0xFF800000#32) reducesTo_S1024x32_S1024_d1 h_S_))))

/-- The probabilities, kept at each row's expert and zero at the others. -/
def gates : FVec Ideal S1024x32 .f32 :=
  select (cmpi .eq (broadcastInDim S1024x32 ![0, 1] bcast_S1024x1_S1024x32_0_1 q)
      (broadcastInDim S1024x32 ![0, 1] bcast_S1x32_S1024x32_0_1 (broadcastInDim S1x32 ![1] bcast_S32_S1x32_1 (iotaInDim S32 32 0))))
    (Host.divf (exps x w) (broadcastInDim S1024x32 ![0, 1] bcast_S1024x1_S1024x32_0_1 (broadcastInDim S1024x1 ![0] bcast_S1024_S1024x1_0
      (Host.reduceAdd (exps x w) (constant S_ .f32 0x00000000#32) reducesTo_S1024x32_S1024_d1 h_S_))))
    (broadcastInDim S1024x32 ![] bcast_S_S1024x32 (constant S_ .f32 0x00000000#32))

/-- The reference's result as a function of its arguments. -/
def value : FVec Ideal S1024x512 .f32 :=
  addf (Host.dotGeneral dot_S1024x256_S256x512_S1024x512_1_0_0_1_n_n none x S)
    (Host.reduceAdd (mulf (broadcastInDim S1024x32x512 ![0, 1, 2] bcast_S1024x32x1_S1024x32x512_0_1_2 (broadcastInDim S1024x32x1 ![0, 1] bcast_S1024x32_S1024x32x1_0_1 (gates x w q)))
      (Host.dotGeneral dot_S1024x256_S32x256x512_S1024x32x512_1_1_0_02_n_n none x W)) (constant S_ .f32 0x00000000#32) reducesTo_S1024x32x512_S1024x512_d1 h_S_)

/-- The reference at a row and a column. -/
theorem value_apply (n : Fin 1024) (h : Fin 512) :
    value x w q W S (ix2 n h)
      = (∑ k : Fin 256, x (ix2 n k) * S (ix2 k h))
        + ∑ e : Fin 32, (if q (ix2 n 0) = BitVec.ofNat 32 e.val then prob (score x w n) e else 0) * ∑ k : Fin 256, x (ix2 n k) * W (ix3 e k h) := by
  pointwise [value, gates, exps]
  simp only [Cert.KernelIdeal.Moe.select_eq, ite_mul, zero_mul]
  rfl

end Cert.ReferenceIdeal

/-! ## The kernel -/

namespace Cert.KernelIdeal.Moe

open Cert.KernelIdeal Cert.KernelIdeal.Gen
open Idealize.ShloMosaic
open Idealize.SL.Sem

/-- Where the magnitude of an extended real compares below the infinite pattern, it is a real. -/
theorem real_of_lt (a : EReal) (h : Ideal.cmp .olt (max a (-a)) (Ideal.ofBits .f32 0x7F800000#32) = 1#1) : ∃ r : ℝ, a = (r : EReal) := by
  rw [top_bits] at h
  induction a with
  | bot => exact absurd h (by simp [Ideal.cmp])
  | top => exact absurd h (by simp [Ideal.cmp])
  | coe r => exact ⟨r, rfl⟩

instance : Subsingleton Cert.Pre_finite_KernelIdeal.S_.Idx := ⟨fun a b => funext fun i => i.elim0⟩

/-- What the precondition says: the rows and the router are finite. -/
theorem finite_of_pre (x : FVec Ideal S1024x256 .f32) (w : FVec Ideal S256x32 .f32) (q : IVec S1024x1 32) (W : FVec Ideal S4x256x512 .f32) (S : FVec Ideal S256x512 .f32)
    (h : Cert.Pre_finite_KernelIdeal.fn x w q W S = fun _ => 1#1) : (∀ i, ∃ r : ℝ, x i = (r : EReal)) ∧ (∀ i, ∃ r : ℝ, w i = (r : EReal)) := by
  have h0 := IntOp.andi_eq_one.1 (congrFun h fun a => a.elim0)
  exact ⟨fun i => real_of_lt _ (Host.reduce_andi_all _ _ _ _ _ h0.1 i), fun i => real_of_lt _ (Host.reduce_andi_all _ _ _ _ _ h0.2 i)⟩

variable (m : (ℓ : Loc nD τ sig) → Buf (Elt Ideal) ℓ)

/-- A row of the matrices a device stacks: its own experts', -/
theorem WC_expert (c : Dev nD) (j : Fin 4) (k : Fin 256) (h : Fin 512) : WC m c (ix2 ⟨k.val + 256 * j.val, by omega⟩ h) = (EW m c (ix3 j k h) : EReal) := by
  have hlt : k.val + 256 * j.val < 1024 := by omega
  refine (dif_pos hlt).trans ?_
  refine (congrArg (k0_pay4 (EW m c)) (pair_ix2 (a := 1024) (b := 512) ⟨k.val + 256 * j.val, hlt⟩ h)).trans ?_
  refine (pay4_apply (EW m c) ⟨k.val + 256 * j.val, hlt⟩ h).trans (congrArg (EW m c) ?_)
  have e1 : (⟨(k.val + 256 * j.val) / 256, by omega⟩ : Fin 4) = j := Fin.ext (by show (k.val + 256 * j.val) / 256 = j.val; omega)
  have e2 : (⟨(k.val + 256 * j.val) % 256, by omega⟩ : Fin 256) = k := Fin.ext (by show (k.val + 256 * j.val) % 256 = k.val; omega)
  exact congrArg₂ (fun a b => ix3 a b h) e1 e2

/-- and the shared one's. -/
theorem WC_shared (c : Dev nD) (k : Fin 256) (h : Fin 512) : WC m c (ix2 ⟨k.val + 1024, by omega⟩ h) = (SW m c (ix2 k h) * ((1 / 8 : ℝ) : EReal) : EReal) := by
  have hlt : ¬ k.val + 1024 < 1024 := by omega
  refine (dif_neg hlt).trans ?_
  have e : (⟨k.val + 1024 - 1024, by omega⟩ : Fin 256) = k := Fin.ext (by show k.val + 1024 - 1024 = k.val; omega)
  refine (congrArg (k0_pay5 (SW m c)) ((congrArg (fun a => Shape.pair (d := ![256, 512]) a h) e).trans (pair_ix2 (a := 256) (b := 512) k h))).trans ?_
  rw [pay5_apply, eighth]

/-- Four experts to a device. -/
theorem block_expert (c : Dev nD) (W : FVec Ideal ⟨3, ![32, 256, 512]⟩ .f32) (j : Fin 4) (k : Fin 256) (h : Fin 512) :
    (Layout.block ⟨3, ![4, 256, 512]⟩ ⟨3, ![32, 256, 512]⟩ 0 8 c W : FVec Ideal ⟨3, ![4, 256, 512]⟩ .f32) (ix3 j k h) = W (ix3 ⟨j.val + 4 * c.val, by have : c.val < 8 := c.isLt; omega⟩ k h) := by
  rw [Layout.block_apply]
  refine congrArg W (funext fun a => Fin.ext ?_)
  rw [Layout.Tiles.idx_val]
  fin_cases a
  · show c.val * 4 + j.val = j.val + 4 * c.val; omega
  · rfl
  · rfl

/-- The kernel's result is the reference's. -/
theorem OUT_eq (x : FVec Ideal S1024x256 .f32) (w : FVec Ideal S256x32 .f32) (q : IVec S1024x1 32) (W : FVec Ideal ⟨3, ![32, 256, 512]⟩ .f32) (S : FVec Ideal S256x512 .f32)
    (hx : ∀ i, ∃ r : ℝ, x i = (r : EReal)) (hw : ∀ i, ∃ r : ℝ, w i = (r : EReal))
    (h0 : ∀ c : Dev nD, m ((c.tc : Thread nD τ).loc main_arg0) = x) (h1 : ∀ c : Dev nD, m ((c.tc : Thread nD τ).loc main_arg1) = w)
    (h2 : ∀ c : Dev nD, m ((c.tc : Thread nD τ).loc main_arg2) = q)
    (h3 : ∀ c : Dev nD, m ((c.tc : Thread nD τ).loc main_arg3) = Layout.block ⟨3, ![4, 256, 512]⟩ ⟨3, ![32, 256, 512]⟩ 0 8 c W)
    (h4 : ∀ c : Dev nD, m ((c.tc : Thread nD τ).loc main_arg4) = S) : OUT m = Cert.ReferenceIdeal.value x w q W S := by
  suffices key : ∀ (n : Fin 1024) (h : Fin 512), OUT m (ix2 n h) = Cert.ReferenceIdeal.value x w q W S (ix2 n h) from
    funext fun i => by rw [eq_ix2 i]; exact key (i 0) (i 1)
  intro n h
  refine (OUT_apply m n h).trans (Eq.trans ?_ (Cert.ReferenceIdeal.value_apply x w q W S n h).symm)
  have hP : ∀ e, ∃ p : ℝ, 0 ≤ p ∧ prob (score x w n) e = (p : EReal) := fun e => by
    obtain ⟨s, hs⟩ := score_real x w hx hw n
    rw [show score x w n = fun e => (s e : EReal) from funext hs]
    exact prob_real s e
  refine Eq.trans (Finset.sum_congr rfl fun d _ => ?_)
    (element (q (ix2 n 0)) (fun k => x (ix2 n k)) (prob (score x w n)) hP (fun e k => W (ix3 e k h)) (fun k => S (ix2 k h)) (fun d k => WC m d (ix2 k h))
      (fun d j k => by rw [WC_expert, EW_eq, h3, block_expert]) (fun d k => by rw [WC_shared, SW_eq, h4]))
  unfold part GT XB
  rw [X_eq, RW_eq, IX_eq, h0, h1, h2, pay1_apply]
  simp only [pay3_apply]

end Cert.KernelIdeal.Moe

end
-- ==== Proof.lean ====
/-
# The certificate

The kernel runs to its end at any float values with its arguments unchanged and every semaphore at
zero; over the extended reals, where the rows and the router are finite, every device's result is
the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs
public import proofs.«01_k».proof.Proof.Result
public import Idealize.ShloMosaic.Adequacy
public import Idealize.ShloMosaic.Init

@[expose] public section

noncomputable section

namespace Cert.Proof

open Idealize.ShloMosaic Idealize.SL.Sem Cert.Kernel

set_option maxRecDepth 20000 in
/-- The two printed kernels have the same bodies, -/
theorem bodies_eq : (@Cert.KernelIdeal.defs₀ Bits _ Cert.KernelIdeal.Gen.facts) = (@Cert.Kernel.defs₀ Bits _ Cert.Kernel.Gen.facts) := by
  unfold Cert.Kernel.defs₀ Cert.KernelIdeal.defs₀
  refine congrArg (Defs.onTc (nD := 8) (τ := Topo.v7x) (sig := Cert.KernelIdeal.sig) (Val := Elt Bits) (Λ := Cert.KernelIdeal.Λ₀)) ?_
  funext ℓ a
  match ℓ, a with
  | ⟨0, _⟩, (t, s) => rfl

/-- so the same programs. -/
theorem programs_eq : (@Cert.KernelIdeal.defs Bits _ Cert.KernelIdeal.Gen.facts) = (@Cert.Kernel.defs Bits _ Cert.Kernel.Gen.facts) := by
  unfold Cert.Kernel.defs Cert.KernelIdeal.defs
  exact congrArg (Pipeline.defs (Cert.KernelIdeal.pcfgs (F := Bits))) bodies_eq

/-- The kernel as written ends with its arguments unchanged and every semaphore at zero: the run at the machine's own floats. -/
theorem frame_kernel : Cert.quiescent_Kernel := by
  intro m ρ _
  have h := (θ_run Cert.KernelIdeal.defs _ _).mono
    (fun r (h : _ ∧ _) => (⟨fun c => (Cert.KernelIdeal.Moe.QC_arrays (F := Bits) m ρ h.1 c).2, h.2⟩ : (∀ c, _) ∧ r.2.sem = fun _ => 0))
    (Cert.KernelIdeal.Moe.run_main (F := Bits) m ρ)
  rw [programs_eq] at h
  exact h

/-- So does the kernel over the extended reals: the same run there. -/
theorem frame_kernelIdeal : Cert.quiescent_KernelIdeal := fun m ρ _ =>
  (θ_run Cert.KernelIdeal.defs _ _).mono
    (fun _ h => ⟨fun c => (Cert.KernelIdeal.Moe.QC_arrays (F := Ideal) m ρ h.1 c).2, h.2⟩)
    (Cert.KernelIdeal.Moe.run_main (F := Ideal) m ρ)

/-- The reference runs on one device, has no semaphores, and leaves its arguments. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's results are the reference's, where the rows and the router are finite. -/
theorem algebraic : Cert.algebraic_KernelIdeal_ReferenceIdeal_pre_finite_KernelIdeal := by
  intro m g m' g' hpre hin
  obtain ⟨hx, hw⟩ := Cert.KernelIdeal.Moe.finite_of_pre _ _ _ _ _ (hpre 0)
  rw [(hin 0).1] at hx
  rw [(hin 0).2.1] at hw
  have hout := Cert.KernelIdeal.Moe.OUT_eq m _ _ _ _ _ hx hw (fun c => (hin c).1) (fun c => (hin c).2.1) (fun c => (hin c).2.2.1)
    (fun c => (hin c).2.2.2.1) (fun c => (hin c).2.2.2.2)
  refine ⟨_, (θ_run Cert.KernelIdeal.defs _ _).mono (fun r h c => ?_) (Cert.KernelIdeal.Moe.run_main (F := Ideal) m g),
    (θ_run Cert.ReferenceIdeal.defs _ _).mono (fun r h => h 0) (Cert.ReferenceIdeal.Value.run (F := Ideal) m' g')⟩
  have ha := Cert.KernelIdeal.Moe.QC_arrays (F := Ideal) m g h.1 c
  exact ⟨ha.1.trans hout, ha.2⟩

/-- All the claims, the frames also under the precondition of the value claim. -/
theorem claim : Cert.Claim :=
  ⟨Cert.Kernel.Gen.facts, Cert.KernelIdeal.Gen.facts, Cert.ReferenceIdeal.Gen.facts, Cert.Pre_finite_KernelIdeal.facts, Cert.Pre_finite_ReferenceIdeal.facts,
    frame_kernel, frame_kernelIdeal, fun m ρ _ => frame_kernelIdeal m ρ trivial, frame_referenceIdeal, fun m ρ _ => frame_referenceIdeal m ρ trivial,
    trivial, algebraic⟩

end Cert.Proof

end
